-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_levels [hPre_levels : Cert.Pre_levels.Facts] (m : (ℓ : Loc Cert.KernelIdeal.nD Cert.KernelIdeal.τ Cert.KernelIdeal.sig) → Buf (Elt Ideal) ℓ) : Prop :=
  ∀ c : Dev Cert.KernelIdeal.nD,
    (Cert.Pre_levels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_levels [hPre_levels : Cert.Pre_levels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_levels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_levels [hKernelIdeal : Cert.KernelIdeal.Facts] [hPre_levels : Cert.Pre_levels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_levels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_levels [hReferenceIdeal : Cert.ReferenceIdeal.Facts] [hPre_levels : Cert.Pre_levels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_levels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_levels [hKernelIdeal : Cert.KernelIdeal.Facts] [hReferenceIdeal : Cert.ReferenceIdeal.Facts] [hPre_levels : Cert.Pre_levels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_levels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_levels : Cert.Pre_levels.Facts),
    quiescent_Kernel (hKernel := hKernel)
    ∧ quiescent_KernelIdeal (hKernelIdeal := hKernelIdeal)
    ∧ quiescent_KernelIdeal_pre_levels (hKernelIdeal := hKernelIdeal) (hPre_levels := hPre_levels)
    ∧ quiescent_ReferenceIdeal (hReferenceIdeal := hReferenceIdeal)
    ∧ quiescent_ReferenceIdeal_pre_levels (hReferenceIdeal := hReferenceIdeal) (hPre_levels := hPre_levels)
    ∧ preserves_Kernel_KernelIdeal
    ∧ algebraic_KernelIdeal_ReferenceIdeal_pre_levels (hKernelIdeal := hKernelIdeal) (hReferenceIdeal := hReferenceIdeal) (hPre_levels := hPre_levels)
-- ==== Pre_levels.lean ====
abbrev S128x64 : Shape := ⟨2, ![128, 64]⟩
abbrev S1000x4096 : Shape := ⟨2, ![1000, 4096]⟩
abbrev S8192x4096 : Shape := ⟨2, ![8192, 4096]⟩
abbrev S_ : Shape := ⟨0, ![]⟩
abbrev S999 : Shape := ⟨1, ![999]⟩
abbrev S1 : Shape := ⟨1, ![1]⟩
abbrev S1000 : Shape := ⟨1, ![1000]⟩
abbrev S1000x1 : Shape := ⟨2, ![1000, 1]⟩
abbrev S4096 : Shape := ⟨1, ![4096]⟩
abbrev S1x4096 : Shape := ⟨2, ![1, 4096]⟩

class Facts : Prop where
  bcast_S_S999 : S_.BroadcastsInDim S999 (![] : Fin 0 → Fin S999.rank)
  shapeCasts_S_S1 : S_.ShapeCasts S1
  bcast_S1_S999_0 : S1.BroadcastsInDim S999 (![0] : Fin 1 → Fin S999.rank)
  bcast_S_S1 : S_.BroadcastsInDim S1 (![] : Fin 0 → Fin S1.rank)
  concatenates_S999_S1_S1000_d0 : Shape.Concatenates [S999, S1] S1000 0
  bcast_S1000_S1000x1_0 : S1000.BroadcastsInDim S1000x1 (![0] : Fin 1 → Fin S1000x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S1000x4096_0_1 : S1x4096.BroadcastsInDim S1000x4096 (![0, 1] : Fin 2 → Fin S1000x4096.rank)
  bcast_S1000x1_S1000x4096_0_1 : S1000x1.BroadcastsInDim S1000x4096 (![0, 1] : Fin 2 → Fin S1000x4096.rank)
  slices_S1000x4096_S1x4096_999_0 : S1000x4096.Slices ![999, 0] S1x4096
  slices_S1000x4096_S1x4096_0_0 : S1000x4096.Slices ![0, 0] S1x4096
  reducesTo_S1000x4096_S_d0_1 : S1000x4096.ReducesTo [0, 1] S_
  h_S_ : 0 < S_.numel

variable [Facts]

def fn_linspace {F : FTy → Type} [FloatOps F] (arg0 : FVec F S_ .f32) (arg1 : FVec F S_ .f32) : FVec F S1000 .f32 :=
  let v0 : FVec F S_ .f32 := id arg0
  let v1 : FVec F S_ .f32 := id arg1
  let v2 : FVec F S_ .f32 := subf v1 v0
  let cst : FVec F S_ .f32 := constant S_ .f32 0x4479C000#32
  let v3 : FVec F S_ .f32 := Host.divf v2 cst
  let v4 : FVec F S999 .f32 := sitofp .f32 (iotaInDim S999 32 0)
  let cst_0 : FVec F S_ .f32 := constant S_ .f32 0x4479C000#32
  let v5 : FVec F S999 .f32 := broadcastInDim S999 ![] bcast_S_S999 cst_0
  let v6 : FVec F S999 .f32 := Host.divf v4 v5
  let v7 : FVec F S1 .f32 := shapeCast S1 v0 shapeCasts_S_S1
  let cst_1 : FVec F S_ .f32 := constant S_ .f32 0x3F800000#32
  let v8 : FVec F S999 .f32 := broadcastInDim S999 ![] bcast_S_S999 cst_1
  let v9 : FVec F S999 .f32 := subf v8 v6
  let v10 : FVec F S999 .f32 := broadcastInDim S999 ![0] bcast_S1_S999_0 v7
  let v11 : FVec F S999 .f32 := mulf v10 v9
  let v12 : FVec F S1 .f32 := shapeCast S1 v1 shapeCasts_S_S1
  let v13 : FVec F S999 .f32 := broadcastInDim S999 ![0] bcast_S1_S999_0 v12
  let v14 : FVec F S999 .f32 := mulf v13 v6
  let v15 : FVec F S999 .f32 := addf v11 v14
  let v16 : FVec F S1 .f32 := broadcastInDim S1 ![] bcast_S_S1 v1
  let v17 : FVec F S1000 .f32 := (fun a b => concatenate S1000 0 [⟨S999, a⟩, ⟨S1, b⟩] concatenates_S999_S1_S1000_d0) v15 v16
  v17

def fn_where {F : FTy → Type} [FloatOps F] (arg0 : IVec S1000x4096 1) (arg1 : FVec F S1x4096 .f32) (arg2 : FVec F S1x4096 .f32) : FVec F S1000x4096 .f32 :=
  let v0 : FVec F S1000x4096 .f32 := broadcastInDim S1000x4096 ![0, 1] bcast_S1x4096_S1000x4096_0_1 arg1
  let v1 : FVec F S1000x4096 .f32 := broadcastInDim S1000x4096 ![0, 1] bcast_S1x4096_S1000x4096_0_1 arg2
  let v2 : FVec F S1000x4096 .f32 := select arg0 v0 v1
  v2

def fn {F : FTy → Type} [FloatOps F] (main_arg0 : FVec F S128x64 .f32) (main_arg1 : FVec F S1000x4096 .f32) (main_arg2 : FVec F S8192x4096 .f32) : IVec S_ 1 :=
  let main_cst : FVec F S_ .f32 := constant S_ .f32 0x00000000#32
  let main_cst_0 : FVec F S_ .f32 := constant S_ .f32 0x3F800000#32
  let main_v0 : FVec F S1000 .f32 := fn_linspace (F := F) main_cst main_cst_0
  let main_v1 : FVec F S1000x1 .f32 := broadcastInDim S1000x1 ![0] bcast_S1000_S1000x1_0 main_v0
  let main_v2 : IVec S4096 32 := iotaInDim S4096 32 0
  let main_v3 : IVec S1x4096 32 := broadcastInDim S1x4096 ![1] bcast_S4096_S1x4096_1 main_v2
  let main_v4 : FVec F S1x4096 .f32 := sitofp .f32 main_v3
  let main_cst_1 : FVec F S_ .f32 := constant S_ .f32 0x3F000000#32
  let main_v5 : FVec F S1x4096 .f32 := broadcastInDim S1x4096 ![] bcast_S_S1x4096 main_cst_1
  let main_v6 : FVec F S1x4096 .f32 := addf main_v4 main_v5
  let main_cst_2 : FVec F S_ .f32 := constant S_ .f32 0x45800000#32
  let main_v7 : FVec F S1x4096 .f32 := broadcastInDim S1x4096 ![] bcast_S_S1x4096 main_cst_2
  let main_v8 : FVec F S1x4096 .f32 := Host.divf main_v6 main_v7
  let main_v9 : FVec F S1x4096 .f32 := id main_v8
  let main_v10 : FVec F S1000x4096 .f32 := broadcastInDim S1000x4096 ![0, 1] bcast_S1x4096_S1000x4096_0_1 main_v9
  let main_v11 : FVec F S1000x4096 .f32 := broadcastInDim S1000x4096 ![0, 1] bcast_S1000x1_S1000x4096_0_1 main_v1
  let main_v12 : IVec S1000x4096 1 := cmpf .olt main_v10 main_v11
  let main_v13 : FVec F S1x4096 .f32 := (extractStridedSlice S1x4096 ![999, 0] · slices_S1000x4096_S1x4096_999_0) main_arg1
  let main_v14 : FVec F S1x4096 .f32 := (extractStridedSlice S1x4096 ![0, 0] · slices_S1000x4096_S1x4096_0_0) main_arg1
  let main_v15 : FVec F S1000x4096 .f32 := fn_where (F := F) main_v12 main_v13 main_v14
  let main_v16 : IVec S1000x4096 1 := cmpf .oeq main_arg1 main_v15
  let main_c : IVec S_ 1 := constantI S_ 1 1#1
  let main_v17 : IVec S_ 1 := (fun x v => Host.reduce IntOp.andi x v reducesTo_S1000x4096_S_d0_1 h_S_) main_v16 main_c
  main_v17
-- ==== Kernel.lean ====
abbrev S128x64 : Shape := ⟨2, ![128, 64]⟩
abbrev S1000x4096 : Shape := ⟨2, ![1000, 4096]⟩
abbrev S8192x4096 : Shape := ⟨2, ![8192, 4096]⟩
abbrev S8192x1 : Shape := ⟨2, ![8192, 1]⟩
abbrev S_ : Shape := ⟨0, ![]⟩
abbrev S999 : Shape := ⟨1, ![999]⟩
abbrev S1 : Shape := ⟨1, ![1]⟩
abbrev S1000 : Shape := ⟨1, ![1000]⟩
abbrev S1000x1 : Shape := ⟨2, ![1000, 1]⟩
abbrev S4096 : Shape := ⟨1, ![4096]⟩
abbrev S1x4096 : Shape := ⟨2, ![1, 4096]⟩
abbrev S8x4096 : Shape := ⟨2, ![8, 4096]⟩
abbrev S1024x4096 : Shape := ⟨2, ![1024, 4096]⟩
abbrev S1024x1 : Shape := ⟨2, ![1024, 1]⟩
abbrev S1x1 : Shape := ⟨2, ![1, 1]⟩
abbrev S1x4095 : Shape := ⟨2, ![1, 4095]⟩
abbrev S1024x4095 : Shape := ⟨2, ![1024, 4095]⟩
abbrev S1023x4096 : Shape := ⟨2, ![1023, 4096]⟩
abbrev S1023x2 : Shape := ⟨2, ![1023, 2]⟩
abbrev S1023x4094 : Shape := ⟨2, ![1023, 4094]⟩
abbrev S1021x4096 : Shape := ⟨2, ![1021, 4096]⟩
abbrev S1x1021 : Shape := ⟨2, ![1, 1021]⟩
abbrev S1x2 : Shape := ⟨2, ![1, 2]⟩
abbrev S1x4094 : Shape := ⟨2, ![1, 4094]⟩

abbrev nBuf : Space → Nat
  | .hbm => 52
  | .vmem => 11
  | .smem => 0
  | _ => 0

abbrev bufTy : (tb : Table) → Fin (tcTables nBuf tb) → BufTy
  | .hbm, ⟨0, _⟩ => ⟨S128x64, .f32⟩
  | .hbm, ⟨1, _⟩ => ⟨S1000x4096, .f32⟩
  | .hbm, ⟨2, _⟩ => ⟨S8192x4096, .f32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S999, .f32⟩
  | .hbm, ⟨12, _⟩ => ⟨S_, .f32⟩
  | .hbm, ⟨13, _⟩ => ⟨S999, .f32⟩
  | .hbm, ⟨14, _⟩ => ⟨S999, .f32⟩
  | .hbm, ⟨15, _⟩ => ⟨S1, .f32⟩
  | .hbm, ⟨16, _⟩ => ⟨S_, .f32⟩
  | .hbm, ⟨17, _⟩ => ⟨S999, .f32⟩
  | .hbm, ⟨18, _⟩ => ⟨S999, .f32⟩
  | .hbm, ⟨19, _⟩ => ⟨S999, .f32⟩
  | .hbm, ⟨20, _⟩ => ⟨S999, .f32⟩
  | .hbm, ⟨21, _⟩ => ⟨S1, .f32⟩
  | .hbm, ⟨22, _⟩ => ⟨S999, .f32⟩
  | .hbm, ⟨23, _⟩ => ⟨S999, .f32⟩
  | .hbm, ⟨24, _⟩ => ⟨S999, .f32⟩
  | .hbm, ⟨25, _⟩ => ⟨S1, .f32⟩
  | .hbm, ⟨26, _⟩ => ⟨S1000, .f32⟩
  | .hbm, ⟨27, _⟩ => ⟨S1000x1, .f32⟩
  | .hbm, ⟨28, _⟩ => ⟨S4096, .i32⟩
  | .hbm, ⟨29, _⟩ => ⟨S1x4096, .i32⟩
  | .hbm, ⟨30, _⟩ => ⟨S1x4096, .f32⟩
  | .hbm, ⟨31, _⟩ => ⟨S_, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S1000x4096, .f32⟩
  | .hbm, ⟨39, _⟩ => ⟨S1000x4096, .f32⟩
  | .hbm, ⟨40, _⟩ => ⟨S1000x4096, .i1⟩
  | .hbm, ⟨41, _⟩ => ⟨S1000x4096, .i1⟩
  | .hbm, ⟨42, _⟩ => ⟨S1000x4096, .i32⟩
  | .hbm, ⟨43, _⟩ => ⟨S_, .i32⟩
  | .hbm, ⟨44, _⟩ => ⟨S4096, .i32⟩
  | .hbm, ⟨45, _⟩ => ⟨S1x4096, .i32⟩
  | .hbm, ⟨46, _⟩ => ⟨S_, .i32⟩
  | .hbm, ⟨47, _⟩ => ⟨S1x4096, .i32⟩
  | .hbm, ⟨48, _⟩ => ⟨S1x4096, .i32⟩
  | .hbm, ⟨49, _⟩ => ⟨S1x4096, .i16⟩
  | .hbm, ⟨50, _⟩ => ⟨S1x4096, .bf16⟩
  | .hbm, ⟨51, _⟩ => ⟨S1x4096, .f32⟩
  | .local _ .vmem, ⟨0, _⟩ => ⟨S8192x1, .f32⟩
  | .local _ .vmem, ⟨1, _⟩ => ⟨S1x4096, .bf16⟩
  | .local _ .vmem, ⟨2, _⟩ => ⟨S8x4096, .f32⟩
  | .local _ .vmem, ⟨3, _⟩ => ⟨S8x4096, .f32⟩
  | .local _ .vmem, ⟨4, _⟩ => ⟨S1024x4096, .f32⟩
  | .local _ .vmem, ⟨5, _⟩ => ⟨S1024x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .bf16⟩
  | .local _ .vmem, ⟨9, _⟩ => ⟨S1x4096, .bf16⟩
  | .local _ .vmem, ⟨10, _⟩ => ⟨S1x4096, .bf16⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst_1 : Ref sig .tc := ⟨.hbm, 31, rfl⟩
abbrev main_v6 : Ref sig .tc := ⟨.hbm, 32, rfl⟩
abbrev main_v7 : Ref sig .tc := ⟨.hbm, 33, rfl⟩
abbrev main_cst_2 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : Index := Scalar.indexCast v3
  let c0 : Index := 0#32
  ![v4.toNat, 0]
def k0_cond2 (i : grid0.Coords) : BitVec 1 :=
  let arg0 : BitVec 32 := BitVec.ofNat 32 (i 0).val
  let c7_i32 : BitVec 32 := 7#32
  let v98 : BitVec 1 := Scalar.cmpi .eq arg0 c7_i32
  let v99 : BitVec 32 := Scalar.extui v98
  let c0_i32_29 : BitVec 32 := 0#32
  let v100 : BitVec 1 := Scalar.cmpi .ne v99 c0_i32_29
  v100

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c124_i32 : BitVec 32 := 124#32
  let c0_i32 : BitVec 32 := 0#32
  let c0_i32_0 : BitVec 32 := 0#32
  ![c124_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S128x64 : Shape := ⟨2, ![128, 64]⟩
abbrev S1000x4096 : Shape := ⟨2, ![1000, 4096]⟩
abbrev S8192x4096 : Shape := ⟨2, ![8192, 4096]⟩
abbrev S1x8192 : Shape := ⟨2, ![1, 8192]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩
abbrev S1x8192x4096 : Shape := ⟨3, ![1, 8192, 4096]⟩
abbrev S1x8189x4096 : Shape := ⟨3, ![1, 8189, 4096]⟩
abbrev S1x8189x3 : Shape := ⟨3, ![1, 8189, 3]⟩
abbrev S1x8189x4093 : Shape := ⟨3, ![1, 8189, 4093]⟩
abbrev S1x8189x2 : Shape := ⟨3, ![1, 8189, 2]⟩
abbrev S1x8189x4094 : Shape := ⟨3, ![1, 8189, 4094]⟩
abbrev S1x8189x1 : Shape := ⟨3, ![1, 8189, 1]⟩
abbrev S1x8189x4095 : Shape := ⟨3, ![1, 8189, 4095]⟩
abbrev S1x4096 : Shape := ⟨2, ![1, 4096]⟩

abbrev nBuf : Space → Nat
  | .hbm => 74
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S1000x4096, .f32⟩
  | .hbm, ⟨2, _⟩ => ⟨S8192x4096, .f32⟩
  | .hbm, ⟨3, _⟩ => ⟨S1x8192, .f32⟩
  | .hbm, ⟨4, _⟩ => ⟨S_, .f32⟩
  | .hbm, ⟨5, _⟩ => ⟨S1x8192, .f32⟩
  | .hbm, ⟨6, _⟩ => ⟨S1x8192, .f32⟩
  | .hbm, ⟨7, _⟩ => ⟨S_, .f32⟩
  | .hbm, ⟨8, _⟩ => ⟨S1x8192, .f32⟩
  | .hbm, ⟨9, _⟩ => ⟨S1x8192, .f32⟩
  | .hbm, ⟨10, _⟩ => ⟨S_, .f32⟩
  | .hbm, ⟨11, _⟩ => ⟨S1x8192, .f32⟩
  | .hbm, ⟨12, _⟩ => ⟨S1x8192, .f32⟩
  | .hbm, ⟨13, _⟩ => ⟨S1x8192, .f32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S1x8192, .f32⟩
  | .hbm, ⟨18, _⟩ => ⟨S1x8192, .f32⟩
  | .hbm, ⟨19, _⟩ => ⟨S_, .f32⟩
  | .hbm, ⟨20, _⟩ => ⟨S1x8192, .f32⟩
  | .hbm, ⟨21, _⟩ => ⟨S1x8192, .f32⟩
  | .hbm, ⟨22, _⟩ => ⟨S1x8192, .i32⟩
  | .hbm, ⟨23, _⟩ => ⟨S_, .i32⟩
  | .hbm, ⟨24, _⟩ => ⟨S1x8192, .i32⟩
  | .hbm, ⟨25, _⟩ => ⟨S1x8192, .i1⟩
  | .hbm, ⟨26, _⟩ => ⟨S_, .i32⟩
  | .hbm, ⟨27, _⟩ => ⟨S1x8192, .i32⟩
  | .hbm, ⟨28, _⟩ => ⟨S1x8192, .i32⟩
  | .hbm, ⟨29, _⟩ => ⟨S1x8192, .i32⟩
  | .hbm, ⟨30, _⟩ => ⟨S1x8192x1, .i32⟩
  | .hbm, ⟨31, _⟩ => ⟨S1, .i32⟩
  | .hbm, ⟨32, _⟩ => ⟨S_, .i32⟩
  | .hbm, ⟨33, _⟩ => ⟨S1x8192x1, .i32⟩
  | .hbm, ⟨34, _⟩ => ⟨S1x8192x1, .i1⟩
  | .hbm, ⟨35, _⟩ => ⟨S1x1x1, .i32⟩
  | .hbm, ⟨36, _⟩ => ⟨S1x8192x1, .i32⟩
  | .hbm, ⟨37, _⟩ => ⟨S1x8192x1, .i1⟩
  | .hbm, ⟨38, _⟩ => ⟨S1x8192x1, .i1⟩
  | .hbm, ⟨39, _⟩ => ⟨S_, .i1⟩
  | .hbm, ⟨40, _⟩ => ⟨S1x8192, .i1⟩
  | .hbm, ⟨41, _⟩ => ⟨S1x8192x4096, .f32⟩
  | .hbm, ⟨42, _⟩ => ⟨S1x8192x4096, .i1⟩
  | .hbm, ⟨43, _⟩ => ⟨S_, .f32⟩
  | .hbm, ⟨44, _⟩ => ⟨S1x8192x4096, .f32⟩
  | .hbm, ⟨45, _⟩ => ⟨S1x8192x4096, .f32⟩
  | .hbm, ⟨46, _⟩ => ⟨S1x8192x4096, .f32⟩
  | .hbm, ⟨47, _⟩ => ⟨S1x8192x4096, .f32⟩
  | .hbm, ⟨48, _⟩ => ⟨S1x8189x4096, .f32⟩
  | .hbm, ⟨49, _⟩ => ⟨S1x8189x3, .f32⟩
  | .hbm, ⟨50, _⟩ => ⟨S1x8189x4093, .f32⟩
  | .hbm, ⟨51, _⟩ => ⟨S1x8189x4096, .f32⟩
  | .hbm, ⟨52, _⟩ => ⟨S1x8189x4096, .f32⟩
  | .hbm, ⟨53, _⟩ => ⟨S1x8189x2, .f32⟩
  | .hbm, ⟨54, _⟩ => ⟨S1x8189x4094, .f32⟩
  | .hbm, ⟨55, _⟩ => ⟨S1x8189x4096, .f32⟩
  | .hbm, ⟨56, _⟩ => ⟨S1x8189x4096, .f32⟩
  | .hbm, ⟨57, _⟩ => ⟨S1x8189x4096, .f32⟩
  | .hbm, ⟨58, _⟩ => ⟨S1x8189x1, .f32⟩
  | .hbm, ⟨59, _⟩ => ⟨S1x8189x4095, .f32⟩
  | .hbm, ⟨60, _⟩ => ⟨S1x8189x4096, .f32⟩
  | .hbm, ⟨61, _⟩ => ⟨S1x8189x4096, .f32⟩
  | .hbm, ⟨62, _⟩ => ⟨S1x8189x4096, .f32⟩
  | .hbm, ⟨63, _⟩ => ⟨S1x8189x4096, .f32⟩
  | .hbm, ⟨64, _⟩ => ⟨S_, .f32⟩
  | .hbm, ⟨65, _⟩ => ⟨S1x4096, .f32⟩
  | .hbm, ⟨66, _⟩ => ⟨S_, .f32⟩
  | .hbm, ⟨67, _⟩ => ⟨S1x4096, .f32⟩
  | .hbm, ⟨68, _⟩ => ⟨S1x4096, .i1⟩
  | .hbm, ⟨69, _⟩ => ⟨S_, .f32⟩
  | .hbm, ⟨70, _⟩ => ⟨S_, .f32⟩
  | .hbm, ⟨71, _⟩ => ⟨S1x4096, .f32⟩
  | .hbm, ⟨72, _⟩ => ⟨S1x4096, .f32⟩
  | .hbm, ⟨73, _⟩ => ⟨S1x4096, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v8 : Ref sig .tc := ⟨.hbm, 21, rfl⟩
abbrev main_v9 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_c_1 : Ref sig .tc := ⟨.hbm, 31, rfl⟩
abbrev main_call2_c_2 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_3 : Ref sig .tc := ⟨.hbm, 39, rfl⟩
abbrev main_call2_v12 : Ref sig .tc := ⟨.hbm, 40, rfl⟩
abbrev main_call2_v13 : Ref sig .tc := ⟨.hbm, 41, rfl⟩
abbrev main_call2_v14 : Ref sig .tc := ⟨.hbm, 42, rfl⟩
abbrev main_call2_cst : Ref sig .tc := ⟨.hbm, 43, rfl⟩
abbrev main_call2_v15 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_call3_v0 : Ref sig .tc := ⟨.hbm, 49, rfl⟩
abbrev main_call3_v1 : Ref sig .tc := ⟨.hbm, 50, rfl⟩
abbrev main_v14 : Ref sig .tc := ⟨.hbm, 51, rfl⟩
abbrev main_v15 : Ref sig .tc := ⟨.hbm, 52, rfl⟩
abbrev main_call4_v0 : Ref sig .tc := ⟨.hbm, 53, rfl⟩
abbrev main_call4_v1 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_call5_v0 : Ref sig .tc := ⟨.hbm, 58, rfl⟩
abbrev main_call5_v1 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_3 : Ref sig .tc := ⟨.hbm, 64, rfl⟩
abbrev main_v23 : Ref sig .tc := ⟨.hbm, 65, rfl⟩
abbrev main_cst_4 : Ref sig .tc := ⟨.hbm, 66, rfl⟩
abbrev main_v24 : Ref sig .tc := ⟨.hbm, 67, rfl⟩
abbrev main_v25 : Ref sig .tc := ⟨.hbm, 68, rfl⟩
abbrev main_cst_5 : Ref sig .tc := ⟨.hbm, 69, rfl⟩
abbrev main_cst_6 : Ref sig .tc := ⟨.hbm, 70, rfl⟩
abbrev main_call6_v0 : Ref sig .tc := ⟨.hbm, 71, rfl⟩
abbrev main_call6_v1 : Ref sig .tc := ⟨.hbm, 72, rfl⟩
abbrev main_v26 : Ref sig .tc := ⟨.hbm, 73, rfl⟩

abbrev nD : Nat := 1
abbrev τ : Topo := Topo.v7x

variable {F : FTy → Type} [FloatOps F]
-- ==== Proof.Cases.lean ====
/- What the body leaves in the carried rows and in the result, case by case, as the named values of the body. -/
module

public import proofs.«01_k».proof.Proof.Gen.KernelIdeal.Frame
public import Idealize.ShloMosaic.Lib.Pipeline.Value
public import Idealize.ShloMosaic.Lib.Tactic

@[expose] public section

noncomputable section

namespace Cert.KernelIdeal.Cases

open Cert.KernelIdeal Cert.KernelIdeal.Gen Idealize.ShloMosaic Idealize.ShloMosaic.TcCoe Idealize.SL.Sem

variable {F : FTy → Type} [FloatOps F]

/-- The two-axis offset of zeros. -/
theorem zeros : (![0, 0] : Fin 2 → Nat) = fun _ => 0 := funext fun a => by fin_cases a <;> rfl

/-- The signal a point selects for its rows, from the blocks it is given. -/
def picked (i : grid0.Coords) (x0 : Vec F S8192x1 .f32) (x1 : Vec F S1x4096 .bf16) (x2 x3 : Vec F S8x4096 .f32) : FVec F S1024x4096 .bf16 :=
  k0_pay9 (View.ld x0 (Rect.unit (s := S8192x1) (k0_off1 i) S1024x1.size (k0_off1_inb i)))
    (View.ld x2 (Rect.unit (s := S8x4096) ![0, 0] S1x4096.size inb_S8x4096_S1x4096_0_0))
    (View.ld x3 (Rect.unit (s := S8x4096) ![7, 0] S1x4096.size inb_S8x4096_S1x4096_7_0)) x1

variable (c : Dev nD) (i : grid0.Coords) (arg1 : Memref sig .tc .vmem S8192x1 .f32) (harg1 : arg1.IsWhole) (arg2 : Memref sig .tc .vmem S1x4096 .bf16) (harg2 : arg2.IsWhole) (arg3 : Memref sig .tc .vmem S8x4096 .f32) (harg3 : arg3.IsWhole) (arg4 : Memref sig .tc .vmem S8x4096 .f32) (harg4 : arg4.IsWhole) (arg5 : Memref sig .tc .vmem S1024x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .bf16) (harg8 : arg8.IsWhole) (arg9 : Memref sig .tc .vmem S1x4096 .bf16) (harg9 : arg9.IsWhole) (arg10 : Memref sig .tc .vmem S1x4096 .bf16) (harg10 : arg10.IsWhole)
    (x0 : Vec F S8192x1 .f32) (x1 : Vec F S1x4096 .bf16) (x2 : Vec F S8x4096 .f32) (x3 : Vec F S8x4096 .f32) (x4 : Vec F S1024x4096 .f32) (xs0 : Vec F S1x4096 .f32) (xs1 : Vec F S1x4096 .bf16) (xs2 : Vec F S1x4096 .bf16) (xs3 : Vec F S1x4096 .bf16)

/-- At the first point, the accumulator. -/
theorem carry0_first (hc0 : cond0_0 i) (hc1 : ¬cond0_1 i) :
    sout0_A_0 c i arg1 harg1 arg2 harg2 arg3 harg3 arg4 harg4 arg5 harg5 arg6 harg6 arg7 harg7 arg8 harg8 arg9 harg9 arg10 harg10 hc0 hc1 x0 x1 x2 x3 x4 = k0_pay14 (picked i x0 x1 x2 x3) x4 k0_pay6 k0_pay7 k0_pay8 k0_pay5 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x4096) zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At the first point, the first carried row. -/
theorem carry1_first (hc0 : cond0_0 i) (hc1 : ¬cond0_1 i) :
    sout0_A_1 c i arg1 harg1 arg2 harg2 arg3 harg3 arg4 harg4 arg5 harg5 arg6 harg6 arg7 harg7 arg8 harg8 arg9 harg9 arg10 harg10 hc0 hc1 x0 x1 x2 x3 x4 = k0_pay1 (k0_pay15 (picked i x0 x1 x2 x3) x4) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x4096) zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At the first point, the second carried row. -/
theorem carry2_first (hc0 : cond0_0 i) (hc1 : ¬cond0_1 i) :
    sout0_A_2 c i arg1 harg1 arg2 harg2 arg3 harg3 arg4 harg4 arg5 harg5 arg6 harg6 arg7 harg7 arg8 harg8 arg9 harg9 arg10 harg10 hc0 hc1 x0 x1 x2 x3 x4 = k0_pay2 (k0_pay13 (picked i x0 x1 x2 x3) x4) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x4096) zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At the first point, the third carried row. -/
theorem carry3_first (hc0 : cond0_0 i) (hc1 : ¬cond0_1 i) :
    sout0_A_3 c i arg1 harg1 arg2 harg2 arg3 harg3 arg4 harg4 arg5 harg5 arg6 harg6 arg7 harg7 arg8 harg8 arg9 harg9 arg10 harg10 hc0 hc1 x0 x1 x2 x3 x4 = k0_pay3 (k0_pay11 (picked i x0 x1 x2 x3) x4) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x4096) zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At a middle point, the accumulator. -/
theorem carry0_middle (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 hc0 hc1 x0 x1 x2 x3 x4 xs0 xs1 xs2 xs3 = k0_pay14 (picked i x0 x1 x2 x3) x4 xs1 xs2 xs3 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1 xs2 xs3)]
  unfold kernelRun0_B
  dsimp only
  sl_unfold_words
  rw [View.canon_unit_zero zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At a middle point, the first carried row. -/
theorem carry1_middle (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 hc0 hc1 x0 x1 x2 x3 x4 xs0 xs1 xs2 xs3 = k0_pay1 (k0_pay15 (picked i x0 x1 x2 x3) x4) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1 xs2 xs3)]
  unfold kernelRun0_B
  dsimp only
  sl_unfold_words
  rw [View.canon_unit_zero zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At a middle point, the second carried row. -/
theorem carry2_middle (hc0 : ¬cond0_0 i) (hc1 : ¬cond0_1 i) :
    sout0_B_2 c i arg1 harg1 arg2 harg2 arg3 harg3 arg4 harg4 arg5 harg5 arg6 harg6 arg7 harg7 arg8 harg8 arg9 harg9 arg10 harg10 hc0 hc1 x0 x1 x2 x3 x4 xs0 xs1 xs2 xs3 = k0_pay2 (k0_pay13 (picked i x0 x1 x2 x3) x4) := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 hc0 hc1 x0 x1 x2 x3 x4 xs0 xs1 xs2 xs3)]
  unfold kernelRun0_B
  dsimp only
  sl_unfold_words
  rw [View.canon_unit_zero zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At a middle point, the third carried row. -/
theorem carry3_middle (hc0 : ¬cond0_0 i) (hc1 : ¬cond0_1 i) :
    sout0_B_3 c i arg1 harg1 arg2 harg2 arg3 harg3 arg4 harg4 arg5 harg5 arg6 harg6 arg7 harg7 arg8 harg8 arg9 harg9 arg10 harg10 hc0 hc1 x0 x1 x2 x3 x4 xs0 xs1 xs2 xs3 = k0_pay3 (k0_pay11 (picked i x0 x1 x2 x3) x4) := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 hc0 hc1 x0 x1 x2 x3 x4 xs0 xs1 xs2 xs3)]
  unfold kernelRun0_B
  dsimp only
  sl_unfold_words
  rw [View.canon_unit_zero zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At the last point, the accumulator. -/
theorem carry0_last (hc0 : ¬cond0_0 i) (hc1 : cond0_1 i) :
    sout0_C_0 c i arg1 harg1 arg2 harg2 arg3 harg3 arg4 harg4 arg5 harg5 arg6 harg6 arg7 harg7 arg8 harg8 arg9 harg9 arg10 harg10 hc0 hc1 x0 x1 x2 x3 x4 xs0 xs1 xs2 xs3 = k0_pay14 (picked i x0 x1 x2 x3) x4 xs1 xs2 xs3 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1 xs2 xs3)]
  unfold kernelRun0_C
  dsimp only
  sl_unfold_words
  rw [View.canon_unit_zero zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At the last point, the first carried row. -/
theorem carry1_last (hc0 : ¬cond0_0 i) (hc1 : cond0_1 i) :
    sout0_C_1 c i arg1 harg1 arg2 harg2 arg3 harg3 arg4 harg4 arg5 harg5 arg6 harg6 arg7 harg7 arg8 harg8 arg9 harg9 arg10 harg10 hc0 hc1 x0 x1 x2 x3 x4 xs0 xs1 xs2 xs3 = k0_pay1 (k0_pay15 (picked i x0 x1 x2 x3) x4) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1 xs2 xs3)]
  unfold kernelRun0_C
  dsimp only
  sl_unfold_words
  rw [View.canon_unit_zero zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At the last point, the second carried row. -/
theorem carry2_last (hc0 : ¬cond0_0 i) (hc1 : cond0_1 i) :
    sout0_C_2 c i arg1 harg1 arg2 harg2 arg3 harg3 arg4 harg4 arg5 harg5 arg6 harg6 arg7 harg7 arg8 harg8 arg9 harg9 arg10 harg10 hc0 hc1 x0 x1 x2 x3 x4 xs0 xs1 xs2 xs3 = k0_pay2 (k0_pay13 (picked i x0 x1 x2 x3) x4) := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 hc0 hc1 x0 x1 x2 x3 x4 xs0 xs1 xs2 xs3)]
  unfold kernelRun0_C
  dsimp only
  sl_unfold_words
  rw [View.canon_unit_zero zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At the last point, the third carried row. -/
theorem carry3_last (hc0 : ¬cond0_0 i) (hc1 : cond0_1 i) :
    sout0_C_3 c i arg1 harg1 arg2 harg2 arg3 harg3 arg4 harg4 arg5 harg5 arg6 harg6 arg7 harg7 arg8 harg8 arg9 harg9 arg10 harg10 hc0 hc1 x0 x1 x2 x3 x4 xs0 xs1 xs2 xs3 = k0_pay3 (k0_pay11 (picked i x0 x1 x2 x3) x4) := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 hc0 hc1 x0 x1 x2 x3 x4 xs0 xs1 xs2 xs3)]
  unfold kernelRun0_C
  dsimp only
  sl_unfold_words
  rw [View.canon_unit_zero zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

/-- At the last point, the result: the sign of the accumulator. -/
theorem out_last (hc0 : ¬cond0_0 i) (hc1 : cond0_1 i) :
    out0_C_5 c i arg1 harg1 arg2 harg2 arg3 harg3 arg4 harg4 arg5 harg5 arg6 harg6 arg7 harg7 arg8 harg8 arg9 harg9 arg10 harg10 hc0 hc1 x0 x1 x2 x3 x4 xs0 xs1 xs2 xs3 = k0_pay4 (k0_pay14 (picked i x0 x1 x2 x3) x4 xs1 xs2 xs3 xs0) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1 xs2 xs3)]
  unfold kernelRun0_C
  dsimp only
  sl_unfold_words
  rw [View.canon_unit_zero zeros]
  simp only [View.readCov_unit_zero (S := S1x4096) _ zeros, View.readAt_eq_ld, harg1.read_unread, harg2.read_unread, harg3.read_unread, harg4.read_unread, harg5.read_unread, harg7.read_unread, harg8.read_unread, harg9.read_unread, harg10.read_unread, View.ld_unit_zero (S := S1x4096) zeros, View.ld_unit_zero (S := S1024x4096) zeros, shapeCast_self]
  rfl

end Cert.KernelIdeal.Cases

end
-- ==== Proof.Window.lean ====
/- Windows of four consecutive rows, and the sum of them block by block: plain arithmetic on the extended reals, with
   no array in it. -/
module

public import Idealize.ShloMosaic.PureOps.Ideal
public import Mathlib.Algebra.BigOperators.Intervals

@[expose] public section

noncomputable section

namespace Cert.Window

/-- The lane `k` places before lane `d`, counted around the 4096 lanes. -/
def back (d : Fin 4096) (k : ℕ) : Fin 4096 := ⟨(d.val + (4096 - k)) % 4096, Nat.mod_lt _ (by decide)⟩

/-- Turning twice is turning by the sum. -/
theorem back_back (d : Fin 4096) (j k : ℕ) (h : j + k ≤ 4096) : back (back d j) k = back d (j + k) := by
  apply Fin.ext
  simp only [back]
  omega

/-- Away from the first lanes it is a subtraction. -/
theorem back_of_le (d : Fin 4096) (k : ℕ) (hk : k ≤ d.val) : back d k = ⟨d.val - k, by omega⟩ := by
  apply Fin.ext
  simp only [back]
  omega

/-- At the first lanes it wraps to the last ones. -/
theorem back_of_lt (d : Fin 4096) (k : ℕ) (hk : d.val < k) (h : k ≤ 4096) : back d k = ⟨d.val + (4096 - k), by omega⟩ := by
  apply Fin.ext
  simp only [back]
  omega

/-- The product of four consecutive rows from row `t`, each row turned one lane further than the next. -/
def gram (s : ℕ → Fin 4096 → EReal) (t : ℕ) (d : Fin 4096) : EReal :=
  s t (back d 3) * s (t + 1) (back d 2) * s (t + 2) (back d 1) * s (t + 3) d

/-- The sum of the windows that start before row `n`. -/
def total (s : ℕ → Fin 4096 → EReal) (n : ℕ) (d : Fin 4096) : EReal :=
  ∑ t ∈ Finset.range n, gram s t d

/-- What is kept of the rows before row `b`: the first three factors of the window that ends at row `b`. -/
def kept3 (s : ℕ → Fin 4096 → EReal) (b : ℕ) (d : Fin 4096) : EReal :=
  s (b - 3) (back d 3) * s (b - 2) (back d 2) * s (b - 1) (back d 1)

/-- The first two factors of the window that ends at row `b + 1`. -/
def kept2 (s : ℕ → Fin 4096 → EReal) (b : ℕ) (d : Fin 4096) : EReal :=
  s (b - 2) (back d 3) * s (b - 1) (back d 2)

/-- The first factor of the window that ends at row `b + 2`. -/
def kept1 (s : ℕ → Fin 4096 → EReal) (b : ℕ) (d : Fin 4096) : EReal := s (b - 1) (back d 3)

/-- The windows inside the first block, alone. -/
theorem total_first (s : ℕ → Fin 4096 → EReal) (d : Fin 4096) :
    total s 1021 d = ∑ r : Fin 1021, gram s r.val d := by
  unfold total
  exact (Fin.sum_univ_eq_sum_range (fun t => gram s t d) 1021).symm

/-- Each later block adds the three windows over its lower edge and the windows inside it. -/
theorem total_next (s : ℕ → Fin 4096 → EReal) (b : ℕ) (hb : 3 ≤ b) (d : Fin 4096) :
    total s (b + 1021) d = total s (b - 3) d + (∑ r : Fin 1021, gram s (b + r.val) d)
      + (kept3 s b d * s b d + kept2 s b d * (s b (back d 1) * s (b + 1) d)
          + kept1 s b d * s b (back d 2) * (s (b + 1) (back d 1) * s (b + 2) d)) := by
  obtain ⟨a, rfl⟩ : ∃ a, b = a + 3 := ⟨b - 3, by omega⟩
  have e : a + 3 + 1021 = a + (3 + 1021) := by omega
  unfold total
  rw [e, Finset.sum_range_add, Finset.sum_range_add _ 3 1021]
  have h1 : ∑ r : Fin 1021, gram s (a + 3 + r.val) d = ∑ x ∈ Finset.range 1021, gram s (a + (3 + x)) d := by
    rw [Fin.sum_univ_eq_sum_range (fun t => gram s (a + 3 + t) d) 1021]
    exact Finset.sum_congr rfl fun x _ => by rw [Nat.add_assoc]
  have h3 : ∑ x ∈ Finset.range 3, gram s (a + x) d = kept3 s (a + 3) d * s (a + 3) d
      + kept2 s (a + 3) d * (s (a + 3) (back d 1) * s (a + 3 + 1) d)
      + kept1 s (a + 3) d * s (a + 3) (back d 2) * (s (a + 3 + 1) (back d 1) * s (a + 3 + 2) d) := by
    simp only [Finset.sum_range_succ, Finset.sum_range_zero, zero_add, gram, kept3, kept2, kept1, Nat.add_assoc,
      Nat.add_sub_cancel, Nat.reduceAdd, Nat.add_zero, mul_assoc, show a + 3 - 2 = a + 1 from rfl, show a + 3 - 1 = a + 2 from rfl]
  rw [h1, h3, Nat.add_sub_cancel]
  abel

end Cert.Window

end
-- ==== Proof.Level.lean ====
/- The level of a sample: a whole number from 0 to 999, its code as a sixteen-bit float pattern, and that codes compare
   as the numbers they stand for. Plain arithmetic, with no array in it. -/
module

public import Idealize.ShloMosaic.PureOps.Ideal
public import Idealize.ShloMosaic.Lib.IdealHost

@[expose] public section

noncomputable section

namespace Cert.Level

open Idealize.ShloMosaic

/-- A sample brought to the scale of the levels and rounded, not yet clipped. -/
def scaled (x : EReal) : EReal :=
  Ideal.liftRound Ideal.roundHalfEven (Ideal.div (x - Ideal.ofBits .f32 0xC74F0800#32) (Ideal.ofBits .f32 0x47CD1400#32)
    * Ideal.ofBits .f32 0x4479C000#32)

/-- The level as the integer word both programs compute: clipped between 0 and 999, then converted. -/
def word (x : EReal) : BitVec 32 :=
  Ideal.fptosi 32 (min ((((999#32 : BitVec 32).toInt : ℝ)) : EReal) (max ((((0#32 : BitVec 32).toInt : ℝ)) : EReal) (scaled x)))

/-- The level as a number. -/
def level (x : EReal) : ℕ := (word x).toNat

/-- The float whose pattern is 16256 more than a word. -/
def code (w : BitVec 32) : EReal := Ideal.ofBits .bf16 ((IntOp.addi w 16256#32).setWidth 16)

/-- The level never exceeds 999. -/
theorem level_le (x : EReal) : level x ≤ 999 := by
  unfold level word
  generalize scaled x = z
  have h999 : ((((999#32 : BitVec 32).toInt : ℝ)) : EReal) = ((999 : ℝ) : EReal) := by norm_num [show (999#32 : BitVec 32).toInt = 999 by decide]
  have h0 : ((((0#32 : BitVec 32).toInt : ℝ)) : EReal) = ((0 : ℝ) : EReal) := by norm_num [show (0#32 : BitVec 32).toInt = 0 by decide]
  rw [h999, h0]
  have hy0 : ((0 : ℝ) : EReal) ≤ min ((999 : ℝ) : EReal) (max ((0 : ℝ) : EReal) z) :=
    le_min (by exact_mod_cast (by norm_num : (0 : ℝ) ≤ 999)) (le_max_left _ _)
  have hy1 : min ((999 : ℝ) : EReal) (max ((0 : ℝ) : EReal) z) ≤ ((999 : ℝ) : EReal) := min_le_left _ _
  generalize min ((999 : ℝ) : EReal) (max ((0 : ℝ) : EReal) z) = y at hy0 hy1
  induction y using EReal.rec with
  | bot => exact absurd hy0 (by simp)
  | top => exact absurd hy1 (by simp)
  | coe r =>
    have r0 : (0 : ℝ) ≤ r := by exact_mod_cast hy0
    have r1 : r ≤ (999 : ℝ) := by exact_mod_cast hy1
    have f0 : 0 ≤ ⌊r⌋ := Int.floor_nonneg.mpr r0
    have f1 : ⌊r⌋ ≤ 999 := by
      have := Int.floor_le_floor r1
      rwa [show ⌊(999 : ℝ)⌋ = 999 from Int.floor_ofNat 999] at this
    have e : Ideal.toIntClamped (-(2 ^ (32 - 1) : Nat)) ((2 ^ (32 - 1) : Nat) - 1) (r : EReal) = ⌊r⌋ := by
      show max _ (min _ (if 0 ≤ r then ⌊r⌋ else ⌈r⌉)) = _
      rw [if_pos r0]
      norm_num
      omega
    unfold Ideal.fptosi
    rw [e, BitVec.toNat_ofInt]
    omega

/-- The word is the level's word. -/
theorem word_eq (x : EReal) : word x = BitVec.ofNat 32 (level x) := by
  unfold level; rw [BitVec.ofNat_toNat, BitVec.setWidth_eq]

/-- The value of the float pattern 16256 more than `k`, times a power of two that does not depend on `k`. -/
def val (k : ℕ) : ℝ := ((128 + (16256 + k) % 128 : ℕ) : ℝ) * 2 ^ ((16256 + k) / 128)

/-- It rises with the number: within one exponent by the fraction, and across exponents by doubling. -/
theorem val_strictMono : StrictMono val := by
  refine strictMono_nat_of_lt_succ fun k => ?_
  unfold val
  obtain ⟨q, r, hr, hk⟩ : ∃ q r, r < 128 ∧ 16256 + k = 128 * q + r := ⟨(16256 + k) / 128, (16256 + k) % 128, Nat.mod_lt _ (by decide), by omega⟩
  have hp : (0 : ℝ) < 2 ^ q := by positivity
  rw [show 16256 + (k + 1) = 128 * q + (r + 1) by omega, hk, show (128 * q + r) % 128 = r by omega, show (128 * q + r) / 128 = q by omega]
  by_cases h : r + 1 < 128
  · rw [show (128 * q + (r + 1)) % 128 = r + 1 by omega, show (128 * q + (r + 1)) / 128 = q by omega]
    push_cast
    nlinarith
  · obtain rfl : r = 127 := by omega
    rw [show (128 * q + (127 + 1)) % 128 = 0 by omega, show (128 * q + (127 + 1)) / 128 = q + 1 by omega, pow_succ]
    push_cast
    nlinarith

/-- The code of a number up to 1000 is a real, in proportion to `val`. -/
theorem code_eq (k : ℕ) (hk : k ≤ 1000) : code (BitVec.ofNat 32 k) = ((val k * (2 : ℝ) ^ (-134 : ℤ) : ℝ) : EReal) := by
  have e : (IntOp.addi (BitVec.ofNat 32 k) 16256#32).setWidth 16 = BitVec.ofNat 16 (16256 + k) := by
    apply BitVec.eq_of_toNat_eq
    simp [IntOp.addi]
    omega
  unfold code
  rw [e]
  show Ideal.ieee 8 7 (BitVec.ofNat 16 (16256 + k)) = _
  have hneg : (BitVec.ofNat 16 (16256 + k)).extractLsb' (8 + 7) 1 = 0#1 := by
    apply BitVec.eq_of_toNat_eq
    simp [BitVec.extractLsb'_toNat, Nat.shiftRight_eq_div_pow]
    omega
  have hex : ((BitVec.ofNat 16 (16256 + k)).extractLsb' 7 8).toNat = (16256 + k) / 128 := by
    simp [BitVec.extractLsb'_toNat, Nat.shiftRight_eq_div_pow]
    omega
  have hfr : ((BitVec.ofNat 16 (16256 + k)).extractLsb' 0 7).toNat = (16256 + k) % 128 := by
    simp [BitVec.extractLsb'_toNat]
  unfold Ideal.ieee
  simp only [hneg, hex, hfr]
  rw [if_neg (by omega), if_neg (by omega)]
  congr 1
  unfold val
  have h2 : (2 : ℝ) ^ ((((16256 + k) / 128 : ℕ) : ℤ) - (2 ^ (8 - 1) - 1) - (7 : ℕ)) = 2 ^ ((16256 + k) / 128) * (2 : ℝ) ^ (-134 : ℤ) := by
    rw [← zpow_natCast, ← zpow_add₀ (by norm_num : (2 : ℝ) ≠ 0)]
    congr 1
    push_cast
    ring
  rw [h2]
  norm_num
  ring

/-- Codes of numbers up to 1000 compare as the numbers do. -/
theorem code_le (a b : ℕ) (ha : a ≤ 1000) (hb : b ≤ 1000) :
    code (BitVec.ofNat 32 a) ≤ code (BitVec.ofNat 32 b) ↔ a ≤ b := by
  rw [code_eq a ha, code_eq b hb, EReal.coe_le_coe_iff,
    mul_le_mul_iff_left₀ (by positivity : (0 : ℝ) < (2 : ℝ) ^ (-134 : ℤ)), val_strictMono.le_iff_le]

/-- A set of numbers below `n` closed downwards is the numbers below its size. -/
theorem mem_iff_lt_card {n : ℕ} (S : Finset (Fin n)) (h : ∀ a b : Fin n, a ≤ b → b ∈ S → a ∈ S) (k : Fin n) :
    k ∈ S ↔ k.val < S.card := by
  constructor
  · intro hk
    have : Finset.Iic k ⊆ S := fun a ha => h a k (Finset.mem_Iic.mp ha) hk
    have := Finset.card_le_card this
    rw [Fin.card_Iic] at this
    omega
  · intro hk
    by_contra hn
    have : S ⊆ Finset.Iio k := fun a ha => Finset.mem_Iio.mpr (lt_of_not_ge fun hle => hn (h k a hle ha))
    have := Finset.card_le_card this
    rw [Fin.card_Iio] at this
    omega

end Cert.Level

end
-- ==== Proof.Payload.lean ====
/- What one block's arithmetic gives, element by element: each named value of the body read at a row and a lane. -/
module

public import proofs.«01_k».proof.Proof.Gen.KernelIdeal.Skeleton
public import proofs.«01_k».proof.Proof.Window
public import proofs.«01_k».proof.Proof.Level
public import Idealize.ShloMosaic.Lib.Pointwise

@[expose] public section

noncomputable section

namespace Cert.KernelIdeal.Payload

open Cert.KernelIdeal Cert.KernelIdeal.Gen Cert.Window Idealize.ShloMosaic

/-- The selected signal: the last level's row where the row's code is at least the lane's, the first level's elsewhere. -/
theorem pay9_at (v5 : Vec Ideal S1024x1 .f32) (v25 : Vec Ideal S1x4096 .f32) (v27 : Vec Ideal S1x4096 .f32)
    (v29 : Vec Ideal S1x4096 .bf16) (r : Fin 1024) (d : Fin 4096) :
    k0_pay9 v5 v25 v27 v29 (ix2 r d)
      = if v29 (ix2 0 d) ≤ Level.code (Level.word (v5 (ix2 r 0))) then v27 (ix2 0 d) else v25 (ix2 0 d) := by
  pointwise [k0_pay9, Level.code, Level.word, Level.scaled]
  rfl

section Rows

variable (v38 : FVec Ideal S1024x4096 .bf16) (v39 : Vec Ideal S1024x4096 .f32)

/-- A block's samples: the weight times the selected signal. -/
theorem pay10_at (r : Fin 1024) (d : Fin 4096) : k0_pay10 v38 v39 (ix2 r d) = v39 (ix2 r d) * v38 (ix2 r d) := by
  pointwise [k0_pay10]

/-- The last row turned by one lane. -/
theorem pay11_at (d : Fin 4096) : k0_pay11 v38 v39 (ix2 0 d) = k0_pay10 v38 v39 (ix2 1023 (back d 1)) := by
  pointwise [k0_pay11]
  split_ifs with h
  · rw [back_of_lt d 1 h (by decide)]; congr 3; omega
  · rw [back_of_le d 1 (by omega)]
  · rename_i h'; exact absurd (by decide) h'

/-- Two consecutive rows multiplied, the first turned by one lane. -/
theorem pay12_at (r : Fin 1023) (d : Fin 4096) : k0_pay12 v38 v39 (ix2 r d)
    = k0_pay10 v38 v39 (ix2 ⟨r.val, by omega⟩ (back d 1)) * k0_pay10 v38 v39 (ix2 ⟨r.val + 1, by omega⟩ d) := by
  pointwise [k0_pay12]
  simp only [Nat.add_comm 1]
  split_ifs with h
  · rw [back_of_lt d 1 h (by decide)]; congr 4; omega
  · rw [back_of_le d 1 (by omega)]
  · rw [back_of_le d 1 (by omega)]

/-- The same, turned by two lanes more. -/
theorem pay13_at (r : Fin 1023) (d : Fin 4096) : k0_pay13 v38 v39 (ix2 r d) = k0_pay12 v38 v39 (ix2 r (back d 2)) := by
  pointwise [k0_pay13]
  split_ifs with h
  · rw [back_of_lt d 2 h (by decide)]; congr 3; omega
  · rw [back_of_le d 2 (by omega)]
  · rename_i h'; exact absurd (by decide) h'

/-- A row turned by two lanes. -/
theorem pay3_at (v45 : FVec Ideal S1x4096 .bf16) (d : Fin 4096) : k0_pay3 v45 (ix2 0 d) = v45 (ix2 0 (back d 2)) := by
  pointwise [k0_pay3]
  split_ifs with h
  · rw [back_of_lt d 2 h (by decide)]; congr 3; omega
  · rw [back_of_le d 2 (by omega)]
  · rename_i h'; exact absurd (by decide) h'

/-- The accumulator's new value: the old one, the windows inside the block, and the three over its lower edge. -/
theorem pay14_at (v60 : Vec Ideal S1x4096 .bf16) (v63 : Vec Ideal S1x4096 .bf16) (v67 : Vec Ideal S1x4096 .bf16)
    (v76 : Vec Ideal S1x4096 .f32) (d : Fin 4096) :
    k0_pay14 v38 v39 v60 v63 v67 v76 (ix2 0 d)
      = v76 (ix2 0 d) + (∑ r : Fin 1021, k0_pay13 v38 v39 (ix2 ⟨r.val, by omega⟩ d) * k0_pay12 v38 v39 (ix2 ⟨r.val + 2, by omega⟩ d))
        + (v60 (ix2 0 d) * k0_pay10 v38 v39 (ix2 0 d) + v63 (ix2 0 d) * k0_pay12 v38 v39 (ix2 0 d)
          + v67 (ix2 0 d) * k0_pay10 v38 v39 (ix2 0 (back d 2)) * k0_pay12 v38 v39 (ix2 1 d)) := by
  pointwise [k0_pay14, dot_S1x1021_S1021x4096_S1x4096_1_0_0_1_n_n]
  simp only [Nat.add_comm 2]
  split_ifs with h
  · rw [back_of_lt d 2 h (by decide)]; congr 5; exact congrArg (ix2 0) (Fin.ext (Nat.add_comm _ _))
  · rw [back_of_le d 2 (by omega)]
  · rename_i h'; exact absurd (by decide) h'

/-- Three rows multiplied: what the next block needs for its first window. -/
theorem pay15_at (d : Fin 4096) : k0_pay1 (k0_pay15 v38 v39) (ix2 0 d)
    = k0_pay13 v38 v39 (ix2 1021 d) * k0_pay11 v38 v39 (ix2 0 d) := by
  pointwise [k0_pay1, k0_pay15]

/-- Two rows multiplied: what the next block needs for its second window. -/
theorem pay2_at (v54 : FVec Ideal S1023x4096 .bf16) (d : Fin 4096) : k0_pay2 v54 (ix2 0 d) = v54 (ix2 1022 d) := by
  pointwise [k0_pay2]

end Rows

/-- The sign of the accumulator, one where it is above zero and minus one elsewhere. -/
theorem pay4_at (v : Vec Ideal S1x4096 .f32) (d : Fin 4096) :
    k0_pay4 v (ix2 0 d) = if 0 < v (ix2 0 d) then (1 : EReal) else Ideal.ofBits .f32 0xBF800000#32 := by
  pointwise [k0_pay4]

/-- The accumulator starts at zero. -/
theorem pay5_at (d : Fin 4096) : (k0_pay5 : FVec Ideal S1x4096 .f32) (ix2 0 d) = 0 := by
  pointwise [k0_pay5]
/-- The first carried row starts at zero. -/
theorem pay6_at (d : Fin 4096) : (k0_pay6 : FVec Ideal S1x4096 .bf16) (ix2 0 d) = 0 := by
  pointwise [k0_pay6]
/-- The second carried row starts at zero. -/
theorem pay7_at (d : Fin 4096) : (k0_pay7 : FVec Ideal S1x4096 .bf16) (ix2 0 d) = 0 := by
  pointwise [k0_pay7]
/-- The third carried row starts at zero. -/
theorem pay8_at (d : Fin 4096) : (k0_pay8 : FVec Ideal S1x4096 .bf16) (ix2 0 d) = 0 := by
  pointwise [k0_pay8]

end Cert.KernelIdeal.Payload

end
-- ==== Proof.Cut.lean ====
/- The count of thresholds at or below each lane's position, as the program prepares it for the kernel. -/
module

public import proofs.«01_k».proof.Proof.Gen.KernelIdeal.Frame
public import proofs.«01_k».proof.Proof.Gen.Pre_levels
public import proofs.«01_k».proof.Proof.Level
public import Idealize.ShloMosaic.Lib.Pointwise
public import Idealize.ShloMosaic.Lib.IndicatorCount
public import Idealize.ShloMosaic.Lib.ReduceAll

@[expose] public section

noncomputable section

namespace Cert.KernelIdeal.Cut

open Cert.KernelIdeal Cert.KernelIdeal.Gen Idealize.ShloMosaic Idealize.ShloMosaic.TcCoe Idealize.SL.Sem

section Arrays

variable {F : FTy → Type} [FloatOps F]

/-- The first 999 fractions: each index over 999. -/
def fractions : FVec F S999 .f32 :=
  Host.divf (sitofp .f32 (iotaInDim S999 32 0)) (broadcastInDim S999 ![] bcast_S_S999 (constant S_ .f32 0x4479C000#32))

/-- One number repeated along the 999 places: each end of the thresholds' range is spread this way. -/
def ends (x : FVec F S_ .f32) : FVec F S999 .f32 := broadcastInDim S999 ![0] bcast_S1_S999_0 (shapeCast S1 x shapeCasts_S_S1)

/-- The thousand thresholds, evenly spaced from zero to one. -/
def thresholds : FVec F S1000 .f32 :=
  concatenate S1000 0 [⟨S999, addf (mulf (ends (constant S_ .f32 0x00000000#32))
      (subf (broadcastInDim S999 ![] bcast_S_S999 (constant S_ .f32 0x3F800000#32)) fractions))
      (mulf (ends (constant S_ .f32 0x3F800000#32)) fractions)⟩,
    ⟨S1, broadcastInDim S1 ![] bcast_S_S1 (constant S_ .f32 0x3F800000#32)⟩] concatenates_S999_S1_S1000_d0

/-- The position of each lane: the middle of its share of the unit interval. -/
def positions : FVec F S1x4096 .f32 :=
  Host.divf (addf (sitofp .f32 (broadcastInDim S1x4096 ![1] bcast_S4096_S1x4096_1 (iotaInDim S4096 32 0)))
    (broadcastInDim S1x4096 ![] bcast_S_S1x4096 (constant S_ .f32 0x3F000000#32)))
    (broadcastInDim S1x4096 ![] bcast_S_S1x4096 (constant S_ .f32 0x45800000#32))

/-- Whether a lane's position lies below a level's threshold. -/
def below : IVec S1000x4096 1 :=
  cmpf .olt (broadcastInDim S1000x4096 ![0, 1] bcast_S1x4096_S1000x4096_0_1 (positions (F := F)))
    (broadcastInDim S1000x4096 ![0, 1] bcast_S1000x1_S1000x4096_0_1 (broadcastInDim S1000x1 ![0] bcast_S1000_S1000x1_0 (thresholds (F := F))))

/-- The number of levels whose threshold is not above the lane's position. -/
def counts : IVec S4096 32 :=
  Host.reduce IntOp.addi (extui 32 (noti (below (F := F))) natLt_1_32) (constantI S_ 32 0#32) reducesTo_S1000x4096_S4096_d0 h_S_

/-- The counts as the kernel is given them: 16256 more, as float patterns. -/
def codes : FVec F S1x4096 .bf16 :=
  bitcastToFloat .bf16 (trunci 16 (addi (broadcastInDim S1x4096 ![1] bcast_S4096_S1x4096_1 (counts (F := F)))
    (broadcastInDim S1x4096 ![] bcast_S_S1x4096 (constantI S_ 32 16256#32))) natLt_16_32)

/-- What the kernel's second operand holds when it starts. -/
theorem V_codes (m : (ℓ : Loc nD τ sig) → Buf (Elt F) ℓ) (c : Dev nD) : V m c main_v21 = codes (F := F) := by
  unfold V
  simp only [hostOps0, hostOps0_1, hostOps0_2, List.flatten_cons, List.flatten_nil, List.cons_append, List.nil_append, List.append_nil,
    StableHlo.TRef.binary, StableHlo.TRef.nullary, StableHlo.TRef.unary, StableHlo.TRef.reshape, StableHlo.TRef.toBuf, StableHlo.TRef.ofBuf, cast_eq]
  after_results_simp <;> rfl

/-- What the kernel's first operand holds when it starts: the input, reshaped. -/
theorem V_input (m : (ℓ : Loc nD τ sig) → Buf (Elt F) ℓ) (c : Dev nD) :
    V m c main_v0 = shapeCast S8192x1 (m ((c : Thread nD τ).loc main_arg0)) shapeCasts_S128x64_S8192x1 := by
  unfold V
  simp only [hostOps0, hostOps0_1, hostOps0_2, List.flatten_cons, List.flatten_nil, List.cons_append, List.nil_append, List.append_nil,
    StableHlo.TRef.binary, StableHlo.TRef.nullary, StableHlo.TRef.unary, StableHlo.TRef.reshape, StableHlo.TRef.toBuf, StableHlo.TRef.ofBuf, cast_eq]
  after_results_simp <;> rfl

/-- The precondition, as a statement about the same thresholds and positions. -/
theorem pre_eq (x : FVec F S128x64 .f32) (sw : FVec F S1000x4096 .f32) (w : FVec F S8192x4096 .f32) :
    Cert.Pre_levels.fn (F := F) x sw w = Host.reduce IntOp.andi (cmpf .oeq sw (Cert.Pre_levels.fn_where (below (F := F))
      (extractStridedSlice S1x4096 ![999, 0] sw Cert.Pre_levels.Gen.facts.slices_S1000x4096_S1x4096_999_0)
      (extractStridedSlice S1x4096 ![0, 0] sw Cert.Pre_levels.Gen.facts.slices_S1000x4096_S1x4096_0_0)))
      (constantI S_ 1 1#1) Cert.Pre_levels.Gen.facts.reducesTo_S1000x4096_S_d0_1 Cert.Pre_levels.Gen.facts.h_S_ := rfl

end Arrays

/-- The float 999. -/
theorem ofBits_999 : Ideal.ofBits .f32 1148829696#32 = ((999 : ℝ) : EReal) := by
  simp [Ideal.ofBits, Ideal.ieee, -EReal.coe_mul]; norm_num

/-- A level's threshold: its number over 999, and one at the last level. -/
theorem threshold_at (k : Fin 1000) : (thresholds : FVec Ideal S1000 .f32) (ix1 k) = (((k.val : ℝ) / 999 : ℝ) : EReal) := by
  have hk := k.isLt
  pointwise [thresholds, fractions, ends]
  rw [ofBits_999, zero_mul, zero_add]
  split_ifs with h
  · have e : (FloatOps.sitofp FTy.f32 (BitVec.ofNat 32 k.val) : Ideal .f32) = ((k.val : ℝ) : EReal) := by
      show (((BitVec.ofNat 32 k.val).toInt : ℝ) : EReal) = _
      rw [BitVec.toInt_eq_toNat_of_lt (by simp; omega), BitVec.toNat_ofNat, Nat.mod_eq_of_lt (by omega)]
      norm_num
    rw [e, Ideal.div_coe (by norm_num), ← EReal.coe_mul, mul_one_div]
  · have : k.val = 999 := by omega
    rw [this]; norm_num

/-- The thresholds rise with the level. -/
theorem threshold_mono (a b : Fin 1000) (h : a ≤ b) :
    (thresholds : FVec Ideal S1000 .f32) (ix1 a) ≤ (thresholds : FVec Ideal S1000 .f32) (ix1 b) := by
  rw [threshold_at, threshold_at, EReal.coe_le_coe_iff]
  have : (a.val : ℝ) ≤ b.val := by exact_mod_cast h
  linarith

/-- A lane's position lies below a level's threshold. -/
def Below (k : Fin 1000) (d : Fin 4096) : Prop :=
  (positions : FVec Ideal S1x4096 .f32) (ix2 0 d) < (thresholds : FVec Ideal S1000 .f32) (ix1 k)

/-- The bit says whether the position lies below the threshold. -/
theorem below_at (k : Fin 1000) (d : Fin 4096) : below (F := Ideal) (ix2 k d) = 1#1 ↔ Below k d := by
  unfold Below
  have e : below (F := Ideal) (ix2 k d) = BitVec.ofBool (decide ((positions : FVec Ideal S1x4096 .f32) (ix2 0 d) < (thresholds : FVec Ideal S1000 .f32) (ix1 k))) := by
    pointwise [below]
  rw [e]
  by_cases h : (positions : FVec Ideal S1x4096 .f32) (ix2 0 d) < (thresholds : FVec Ideal S1000 .f32) (ix1 k) <;> simp [h]

open Classical in
/-- The levels whose threshold is not above a lane's position. -/
def reached (d : Fin 4096) : Finset (Fin 1000) := Finset.univ.filter fun k => ¬ Below k d

/-- A level is reached when its threshold is not above the position. -/
theorem mem_reached (k : Fin 1000) (d : Fin 4096) : k ∈ reached d ↔ ¬ Below k d := by
  classical
  unfold reached
  rw [Finset.mem_filter]
  exact and_iff_right (Finset.mem_univ _)

/-- How many levels' thresholds are not above a lane's position. -/
def cut (d : Fin 4096) : ℕ := (reached d).card

/-- There are a thousand levels. -/
theorem cut_le (d : Fin 4096) : cut d ≤ 1000 := (Finset.card_le_univ _).trans (by simp)

/-- A position lies below a level's threshold exactly when its count is at most the level. -/
theorem below_iff (k : Fin 1000) (d : Fin 4096) : Below k d ↔ cut d ≤ k.val := by
  have := Level.mem_iff_lt_card (reached d) (fun a b hab hb => by
    rw [mem_reached] at hb ⊢
    exact fun h => hb (lt_of_lt_of_le h (threshold_mono a b hab))) k
  unfold cut
  rw [← not_lt, ← this, mem_reached, not_not]

/-- The counts array holds the counts. -/
theorem count_at (d : Fin 4096) : counts (F := Ideal) (ix1 d) = BitVec.ofNat 32 (cut d) := by
  pointwise [counts]
  rw [IndicatorCount.fold_addi_setWidth_eq_card]
  unfold cut
  congr 2
  ext k
  rw [Finset.mem_filter, mem_reached, ← below_at, and_iff_right (Finset.mem_univ _)]
  generalize below (F := Ideal) (ix2 k d) = b
  clear k
  revert b
  decide

/-- The codes array holds the counts' codes. -/
theorem code_at (d : Fin 4096) : codes (F := Ideal) (ix2 0 d) = Level.code (BitVec.ofNat 32 (cut d)) := by
  pointwise [codes]
  rw [count_at]; rfl

/-- A decision's bit being one says the decision holds. -/
theorem of_bit {p : Prop} [Decidable p] (h : BitVec.ofBool (decide p) = 1#1) : p := by
  by_contra hn
  rw [decide_eq_false hn] at h
  exact absurd h (by decide)

/-- Under the precondition the signal of a level is the last level's where the position lies below the level's
    threshold, and the first level's elsewhere. -/
theorem signal_eq (x : FVec Ideal S128x64 .f32) (sw : FVec Ideal S1000x4096 .f32) (w : FVec Ideal S8192x4096 .f32)
    (h : Cert.Pre_levels.fn (F := Ideal) x sw w = fun _ => 1#1) (k : Fin 1000) (d : Fin 4096) :
    sw (ix2 k d) = if cut d ≤ k.val then sw (ix2 999 d) else sw (ix2 0 d) := by
  rw [pre_eq] at h
  have e := Host.reduce_andi_all _ _ _ _ _ (congrFun h ix0) (ix2 k d)
  have b := below_at k d
  rw [below_iff] at b
  revert e
  pointwise [Cert.Pre_levels.fn_where]
  unfold Scalar.select
  by_cases hb : below (F := Ideal) (ix2 k d) = 1#1
  · rw [if_pos (b.mp hb)]
    simp [hb]
    exact of_bit
  · rw [if_neg (fun h => hb (b.mpr h))]
    simp [hb]
    exact of_bit

end Cert.KernelIdeal.Cut

end
-- ==== Proof.Samples.lean ====
/- The samples both programs multiply together: a sample's weight times the signal of the level its input rounds to. -/
module

public import Idealize.ShloMosaic.Lib.Pointwise
public import proofs.«01_k».proof.Proof.Level

@[expose] public section

noncomputable section

namespace Cert.Samples

open Idealize.ShloMosaic

/-- Sample `n` at lane `d`, of the input taken row by row. Beyond the last sample, zero. -/
def sample (x : (⟨2, ![128, 64]⟩ : Shape).Idx → EReal) (sw : (⟨2, ![1000, 4096]⟩ : Shape).Idx → EReal)
    (w : (⟨2, ![8192, 4096]⟩ : Shape).Idx → EReal) (n : ℕ) (d : Fin 4096) : EReal :=
  if h : n < 8192 then
    w (ix2 ⟨n, h⟩ d) * sw (ix2 ⟨Level.level (x (ix2 ⟨n / 64, by omega⟩ ⟨n % 64, Nat.mod_lt _ (by decide)⟩)), Nat.lt_succ_of_le (Level.level_le _)⟩ d)
  else 0

end Cert.Samples

end
-- ==== Proof.Blocks.lean ====
/- What the blocks of a grid point hold, and the samples they give. -/
module

public import proofs.«01_k».proof.Proof.Cases
public import proofs.«01_k».proof.Proof.Payload
public import proofs.«01_k».proof.Proof.Cut
public import proofs.«01_k».proof.Proof.Samples
public import Idealize.ShloMosaic.Lib.Pipeline.ValueKit

@[expose] public section

noncomputable section

namespace Cert.KernelIdeal.Blocks

open Cert.KernelIdeal Cert.KernelIdeal.Gen Cert.KernelIdeal.Cases Cert.KernelIdeal.Payload Cert.KernelIdeal.Cut Cert.Samples
open Idealize.ShloMosaic Idealize.ShloMosaic.TcCoe Idealize.SL.Sem

variable (m : (ℓ : Loc nD τ sig) → Buf (Elt Ideal) ℓ) (c : Dev nD)

/-- The grid has eight points. -/
theorem points (t : Fin cfg0.N) : t.val < 8 := lt_of_lt_of_eq t.isLt N_0

/-- Any array read through the first window's block is read where it stands: the block is the array. -/
theorem read_whole0 (t : Fin cfg0.N) (f : S8192x1.Idx → EReal) (i : S8192x1.Idx) :
    ((cfg0.win 0).blk t).view.read (Elt Ideal) f i = f i := by
  have hi : ∀ t : Fin cfg0.N, win0_0.index t = ![0, 0] := by decide +kernel
  blk_ext [hi t]

/-- Any array read through the second window's block is read where it stands: the block is the array. -/
theorem read_whole1 (t : Fin cfg0.N) (f : S1x4096.Idx → EReal) (i : S1x4096.Idx) :
    ((cfg0.win 1).blk t).view.read (Elt Ideal) f i = f i := by
  have hi : ∀ t : Fin cfg0.N, win0_1.index t = ![0, 0] := by decide +kernel
  blk_ext [hi t]

/-- The input's block is the whole reshaped input. -/
theorem input_at (t : Fin cfg0.N) (n : Fin 8192) : iblk m c 0 t (ix2 n 0)
    = m ((c : Thread nD τ).loc main_arg0) (ix2 ⟨n.val / 64, by omega⟩ ⟨n.val % 64, Nat.mod_lt _ (by decide)⟩) := by
  have e : iblk m c 0 t (ix2 n 0) = V m c main_v0 (ix2 n 0) := read_whole0 t _ _
  rw [e, V_input]
  pointwise

/-- The codes' block is the whole array of codes. -/
theorem codes_at (t : Fin cfg0.N) : iblk m c 1 t = codes (F := Ideal) := by
  rw [← V_codes m c]
  exact funext fun i => read_whole1 t _ i

/-- The first signal block is the first eight levels. -/
theorem base_at (t : Fin cfg0.N) (d : Fin 4096) : iblk m c 2 t (ix2 0 d) = m ((c : Thread nD τ).loc main_arg1) (ix2 0 d) := by
  have hi : ∀ t : Fin cfg0.N, win0_2.index t = ![0, 0] := by decide +kernel
  blk_ext [iblk, V, hi t]

/-- The second signal block is the last eight levels. -/
theorem top_at (t : Fin cfg0.N) (d : Fin 4096) : iblk m c 3 t (ix2 7 d) = m ((c : Thread nD τ).loc main_arg1) (ix2 999 d) := by
  have hi : ∀ t : Fin cfg0.N, win0_3.index t = ![124, 0] := by decide +kernel
  blk_ext [iblk, V, hi t]

/-- The weights' block is the point's rows. -/
theorem weights_at (t : Fin cfg0.N) (r : Fin 1024) (d : Fin 4096) : iblk m c 4 t (ix2 r d)
    = m ((c : Thread nD τ).loc main_arg2) (ix2 ⟨1024 * t.val + r.val, by have := points t; omega⟩ d) := by
  have hi : ∀ t : Fin cfg0.N, win0_4.index t = ![t.val, 0] := by decide +kernel
  blk_ext [iblk, V, hi t]

/-- The row the body starts reading the input at. -/
theorem offset (t : Fin cfg0.N) : k0_off1 (grid0.coords t) = ![1024 * t.val, 0] := by
  have h : ∀ t : Fin cfg0.N, k0_off1 (grid0.coords t) = ![1024 * t.val, 0] := by decide +kernel
  exact h t

/-- Under the precondition a block's products are the samples of its rows. -/
theorem sample_at (hpre : Cert.Pre_levels.fn (F := Ideal) (m ((c : Thread nD τ).loc main_arg0)) (m ((c : Thread nD τ).loc main_arg1))
      (m ((c : Thread nD τ).loc main_arg2)) = fun _ => 1#1) (t : Fin cfg0.N) (r : Fin 1024) (d : Fin 4096) :
    k0_pay10 (picked (grid0.coords t) (iblk m c 0 t) (iblk m c 1 t) (iblk m c 2 t) (iblk m c 3 t)) (iblk m c 4 t) (ix2 r d)
      = sample (m ((c : Thread nD τ).loc main_arg0)) (m ((c : Thread nD τ).loc main_arg1)) (m ((c : Thread nD τ).loc main_arg2))
          (1024 * t.val + r.val) d := by
  have ht := points t
  have hn : 1024 * t.val + r.val < 8192 := by omega
  rw [pay10_at, weights_at]
  unfold picked sample
  rw [pay9_at, dif_pos hn]
  congr 1
  have e0 : View.ld (iblk m c 0 t) (Rect.unit (s := S8192x1) (k0_off1 (grid0.coords t)) S1024x1.size (k0_off1_inb (grid0.coords t))) (ix2 r 0)
      = iblk m c 0 t (ix2 ⟨1024 * t.val + r.val, hn⟩ 0) := by
    have := offset t
    pointwise
    congr 1
    exact congrArg₂ ix2 (Fin.ext (by simp [this])) (Fin.ext (by simp [this]))
  have e2 : View.ld (iblk m c 2 t) (Rect.unit (s := S8x4096) ![0, 0] S1x4096.size inb_S8x4096_S1x4096_0_0) (ix2 0 d) = iblk m c 2 t (ix2 0 d) := by
    pointwise
  have e3 : View.ld (iblk m c 3 t) (Rect.unit (s := S8x4096) ![7, 0] S1x4096.size inb_S8x4096_S1x4096_7_0) (ix2 0 d) = iblk m c 3 t (ix2 7 d) := by
    pointwise
  rw [e0, e2, e3, base_at, top_at, codes_at, code_at, input_at, Level.word_eq]
  exact (if_congr (Level.code_le _ _ (cut_le d) ((Level.level_le _).trans (by decide))) rfl rfl).trans (signal_eq _ _ _ hpre ⟨_, _⟩ d).symm

end Cert.KernelIdeal.Blocks

end
-- ==== Proof.Step.lean ====
/- One block's step, when its products are 1024 consecutive samples: the accumulator gains the windows that end in the
   block, and the carried rows become what the next block needs. -/
module

public import proofs.«01_k».proof.Proof.Payload

@[expose] public section

noncomputable section

namespace Cert.KernelIdeal.Step

open Cert.KernelIdeal Cert.KernelIdeal.Gen Cert.KernelIdeal.Payload Cert.Window Idealize.ShloMosaic

variable (v38 : FVec Ideal S1024x4096 .bf16) (v39 : Vec Ideal S1024x4096 .f32) (s : ℕ → Fin 4096 → EReal) (b : ℕ)
  (hs : ∀ (r : Fin 1024) (d : Fin 4096), k0_pay10 v38 v39 (ix2 r d) = s (b + r.val) d)

include hs

/-- Pairs of consecutive samples. -/
theorem pair_at (r : Fin 1023) (d : Fin 4096) : k0_pay12 v38 v39 (ix2 r d) = s (b + r.val) (back d 1) * s (b + r.val + 1) d := by
  rw [pay12_at, hs, hs]; rfl

/-- Pairs of consecutive samples, turned by two lanes more. -/
theorem turned_at (r : Fin 1023) (d : Fin 4096) :
    k0_pay13 v38 v39 (ix2 r d) = s (b + r.val) (back d 3) * s (b + r.val + 1) (back d 2) := by
  rw [pay13_at, pair_at v38 v39 s b hs, back_back d 2 1 (by decide)]

/-- The windows inside the block. -/
theorem inside (d : Fin 4096) : (∑ r : Fin 1021, k0_pay13 v38 v39 (ix2 ⟨r.val, by omega⟩ d) * k0_pay12 v38 v39 (ix2 ⟨r.val + 2, by omega⟩ d))
    = ∑ r : Fin 1021, gram s (b + r.val) d := by
  refine Finset.sum_congr rfl fun r _ => ?_
  rw [turned_at v38 v39 s b hs, pair_at v38 v39 s b hs]
  exact (mul_assoc _ _ _).symm

/-- The first carried row after the block. -/
theorem keeps3 (d : Fin 4096) : k0_pay1 (k0_pay15 v38 v39) (ix2 0 d) = kept3 s (b + 1024) d := by
  rw [pay15_at, turned_at v38 v39 s b hs, pay11_at, hs]; rfl

/-- The second carried row after the block. -/
theorem keeps2 (d : Fin 4096) : k0_pay2 (k0_pay13 v38 v39) (ix2 0 d) = kept2 s (b + 1024) d := by
  rw [pay2_at, turned_at v38 v39 s b hs]; rfl

/-- The third carried row after the block. -/
theorem keeps1 (d : Fin 4096) : k0_pay3 (k0_pay11 v38 v39) (ix2 0 d) = kept1 s (b + 1024) d := by
  rw [pay3_at, pay11_at, hs, back_back d 2 1 (by decide)]; rfl

/-- After the first block, the accumulator holds the windows inside it. -/
theorem sum_first (hb : b = 0) (d : Fin 4096) :
    k0_pay14 (F := Ideal) v38 v39 (k0_pay6 (F := Ideal)) (k0_pay7 (F := Ideal)) (k0_pay8 (F := Ideal)) (k0_pay5 (F := Ideal)) (ix2 0 d) = total s (b + 1021) d := by
  rw [pay14_at, inside v38 v39 s b hs, pay5_at, pay6_at, pay7_at, pay8_at]
  simp only [zero_mul, zero_add, add_zero]
  subst hb
  simp only [zero_add]
  exact (total_first s d).symm

/-- After a later block, it holds the windows up to the block's end. -/
theorem sum_next (hb : 3 ≤ b) (p3 p2 p1 : Vec Ideal S1x4096 .bf16) (acc : Vec Ideal S1x4096 .f32) (d : Fin 4096)
    (h3 : p3 (ix2 0 d) = kept3 s b d) (h2 : p2 (ix2 0 d) = kept2 s b d) (h1 : p1 (ix2 0 d) = kept1 s b d)
    (ha : acc (ix2 0 d) = total s (b - 3) d) :
    k0_pay14 v38 v39 p3 p2 p1 acc (ix2 0 d) = total s (b + 1021) d := by
  rw [pay14_at, inside v38 v39 s b hs, ha, h3, h2, h1, hs, pair_at v38 v39 s b hs, hs, pair_at v38 v39 s b hs, total_next s b hb]
  rfl

end Cert.KernelIdeal.Step

end
-- ==== Proof.Carry.lean ====
/- What the accumulator and the carried rows hold after every grid point, and so what the kernel's result holds. -/
module

public import proofs.«01_k».proof.Proof.Blocks
public import proofs.«01_k».proof.Proof.Step
public import proofs.«01_k».proof.Proof.Gen.KernelIdeal.Value

@[expose] public section

noncomputable section

namespace Cert.KernelIdeal.Carry

open Cert.KernelIdeal Cert.KernelIdeal.Gen Cert.KernelIdeal.Cases Cert.KernelIdeal.Payload Cert.KernelIdeal.Blocks Cert.KernelIdeal.Step
open Cert.Window Cert.Samples Idealize.ShloMosaic Idealize.ShloMosaic.TcCoe Idealize.SL.Sem

variable (m : (ℓ : Loc nD τ sig) → Buf (Elt Ideal) ℓ) (c : Dev nD)

/-- The samples of the arrays the program is given. -/
def samples : ℕ → Fin 4096 → EReal :=
  sample (m ((c : Thread nD τ).loc main_arg0)) (m ((c : Thread nD τ).loc main_arg1)) (m ((c : Thread nD τ).loc main_arg2))

variable (hpre : Cert.Pre_levels.fn (F := Ideal) (m ((c : Thread nD τ).loc main_arg0)) (m ((c : Thread nD τ).loc main_arg1))
      (m ((c : Thread nD τ).loc main_arg2)) = fun _ => 1#1)

/-- What the accumulator and the carried rows must hold once `b` samples have been read. -/
def Holds (b : ℕ) (st : Vec Ideal S1x4096 .f32 × Vec Ideal S1x4096 .f32 × Vec Ideal S1x4096 .bf16 × Vec Ideal S1x4096 .bf16 × Vec Ideal S1x4096 .bf16) : Prop :=
  ∀ d : Fin 4096, st.2.1 (ix2 0 d) = total (samples m c) (b - 3) d ∧ st.2.2.1 (ix2 0 d) = kept3 (samples m c) b d
    ∧ st.2.2.2.1 (ix2 0 d) = kept2 (samples m c) b d ∧ st.2.2.2.2 (ix2 0 d) = kept1 (samples m c) b d

include hpre

/-- After the first point. -/
theorem holds_first (t : Fin cfg0.N) (h0 : t.val % 8 = 0) : Holds m c (1024 * t.val + 1024) (outsAt0 m c t.val t.isLt) := by
  have ht := points t
  have hs := sample_at m c hpre t
  have hb : 1024 * t.val = 0 := by omega
  rw [outsAt0_A m c t h0 (by omega)]
  unfold Holds
  dsimp only
  rw [carry0_first, carry1_first, carry2_first, carry3_first]
  exact fun d => ⟨sum_first _ _ _ _ hs hb d, keeps3 _ _ _ _ hs d, keeps2 _ _ _ _ hs d, keeps1 _ _ _ _ hs d⟩

/-- After a middle point, from the point before. -/
theorem holds_middle (t : Fin cfg0.N) (h0 : ¬t.val % 8 = 0) (h1 : ¬t.val % 8 = 7) (hlt : t.val - 1 < cfg0.N)
    (ih : Holds m c (1024 * t.val) (outsAt0 m c (t.val - 1) hlt)) : Holds m c (1024 * t.val + 1024) (outsAt0 m c t.val t.isLt) := by
  have ht := points t
  have hs := sample_at m c hpre t
  rw [outsAt0_B m c t h0 h1]
  unfold Holds at ih ⊢
  dsimp only
  rw [carry0_middle, carry1_middle, carry2_middle, carry3_middle]
  exact fun d => ⟨sum_next _ _ _ _ hs (by omega) _ _ _ _ d (ih d).2.1 (ih d).2.2.1 (ih d).2.2.2 (ih d).1,
    keeps3 _ _ _ _ hs d, keeps2 _ _ _ _ hs d, keeps1 _ _ _ _ hs d⟩

/-- After every point but the last. -/
theorem holds (n : ℕ) (hn : n < cfg0.N) (h7 : n < 7) : Holds m c (1024 * n + 1024) (outsAt0 m c n hn) := by
  induction n with
  | zero => exact holds_first m c hpre ⟨0, hn⟩ rfl
  | succ n ih => exact holds_middle m c hpre ⟨n + 1, hn⟩ (by dsimp only; omega) (by dsimp only; omega) _ (ih (by omega) (by omega))

/-- The kernel's result: at each lane the sign of the sum of all 8189 windows. -/
theorem result_at (d : Fin 4096) : Value.G5 m c (ix2 0 d)
    = if 0 < total (samples m c) 8189 d then (1 : EReal) else Ideal.ofBits .f32 0xBF800000#32 := by
  have h7 : 7 < cfg0.N := lt_of_lt_of_eq (by decide) N_0.symm
  have ih := holds m c hpre 6 (by omega) (by decide)
  have hs := sample_at m c hpre ⟨7, h7⟩
  unfold Holds at ih
  rw [Value.G5_last, ← Value.outsAt0_sweep m c 7 h7, outsAt0_C m c ⟨7, h7⟩ (by dsimp only; omega) rfl]
  dsimp only
  rw [out_last, pay4_at]
  rw [sum_next _ _ (samples m c) _ hs (by dsimp only; omega) _ _ _ _ d (ih d).2.1 (ih d).2.2.1 (ih d).2.2.2 (ih d).1]
  rfl

end Cert.KernelIdeal.Carry

end
-- ==== Proof.Reference.lean ====
/- What the reference program computes, read element by element. -/
module

public import proofs.«01_k».proof.Proof.Gen.ReferenceIdeal.Run
public import proofs.«01_k».proof.Proof.Samples
public import proofs.«01_k».proof.Proof.Window
public import Idealize.ShloMosaic.Lib.Pointwise
public import Idealize.ShloMosaic.Lib.ReduceAll

@[expose] public section

noncomputable section

namespace Cert.ReferenceIdeal.Read

open Cert.ReferenceIdeal Cert.ReferenceIdeal.Gen Cert.Window Cert.Samples Idealize.ShloMosaic Idealize.ShloMosaic.TcCoe Idealize.SL.Sem

section Arrays

variable {F : FTy → Type} [FloatOps F]

/-- The level of each sample: the input scaled, rounded, clipped and converted. -/
def levels (x : FVec F S128x64 .f32) : IVec S1x8192 32 :=
  fptosi 32 (minimumf (broadcastInDim S1x8192 ![] bcast_S_S1x8192 (sitofp .f32 (constantI S_ 32 999#32)))
    (maximumf (broadcastInDim S1x8192 ![] bcast_S_S1x8192 (sitofp .f32 (constantI S_ 32 0#32)))
      (Host.roundeven (mulf (Host.divf (subf (shapeCast S1x8192 x shapeCasts_S128x64_S1x8192)
        (broadcastInDim S1x8192 ![] bcast_S_S1x8192 (constant S_ .f32 0xC74F0800#32)))
        (broadcastInDim S1x8192 ![] bcast_S_S1x8192 (constant S_ .f32 0x47CD1400#32)))
        (broadcastInDim S1x8192 ![] bcast_S_S1x8192 (constant S_ .f32 0x4479C000#32))))))

/-- The row each sample takes: its level, counted from the end where negative. -/
def rows (l : IVec S1x8192 32) : IVec S1x8192x1 32 :=
  broadcastInDim S1x8192x1 ![0, 1] bcast_S1x8192_S1x8192x1_0_1
    (select (cmpi .slt l (broadcastInDim S1x8192 ![] bcast_S_S1x8192 (constantI S_ 32 0#32)))
      (addi l (broadcastInDim S1x8192 ![] bcast_S_S1x8192 (constantI S_ 32 1000#32))) l)

/-- Whether each sample's row exists. -/
def inRange (i : IVec S1x8192x1 32) : IVec S1x8192 1 :=
  Host.reduce IntOp.andi (andi (cmpi .sge i (broadcastInDim S1x8192x1 ![] bcast_S_S1x8192x1 (constantI S_ 32 0#32)))
    (cmpi .sle i (broadcastInDim S1x8192x1 ![0, 1, 2] bcast_S1x1x1_S1x8192x1_0_1_2 (broadcastInDim S1x1x1 ![2] bcast_S1_S1x1x1_2 (constantI S1 32 999#32)))))
    (constantI S_ 1 1#1) reducesTo_S1x8192x1_S1x8192_d2 h_S_

/-- The samples: the signal's row at each level times the weights. -/
def samples (l : IVec S1x8192 32) (sw : FVec F S1000x4096 .f32) (w : FVec F S8192x4096 .f32) : FVec F S1x8192x4096 .f32 :=
  mulf (select (broadcastInDim S1x8192x4096 ![0, 1] bcast_S1x8192_S1x8192x4096_0_1 (inRange (rows l)))
    (Host.gather gather_S1000x4096_S1x8192x1_S1x8192x4096_2_0_n_n_0_2_14096 sw (rows l))
    (broadcastInDim S1x8192x4096 ![] bcast_S_S1x8192x4096 (constant S_ .f32 0x7FC00000#32)))
    (broadcastInDim S1x8192x4096 ![1, 2] bcast_S8192x4096_S1x8192x4096_1_2 w)

/-- The three older factors of each window: samples from row `0`, `1` and `2` on, turned by three, two and one lanes. -/
def older3 (a : FVec F S1x8192x4096 .f32) : FVec F S1x8189x4096 .f32 :=
  concatenate S1x8189x4096 2 [⟨S1x8189x3, extractStridedSlice S1x8189x3 ![0, 0, 4093] (extractStridedSlice S1x8189x4096 ![0, 0, 0] a slices_S1x8192x4096_S1x8189x4096_0_0_0) slices_S1x8189x4096_S1x8189x3_0_0_4093⟩,
    ⟨S1x8189x4093, extractStridedSlice S1x8189x4093 ![0, 0, 0] (extractStridedSlice S1x8189x4096 ![0, 0, 0] a slices_S1x8192x4096_S1x8189x4096_0_0_0) slices_S1x8189x4096_S1x8189x4093_0_0_0⟩] concatenates_S1x8189x3_S1x8189x4093_S1x8189x4096_d2
/-- The second factor. -/
def older2 (a : FVec F S1x8192x4096 .f32) : FVec F S1x8189x4096 .f32 :=
  concatenate S1x8189x4096 2 [⟨S1x8189x2, extractStridedSlice S1x8189x2 ![0, 0, 4094] (extractStridedSlice S1x8189x4096 ![0, 1, 0] a slices_S1x8192x4096_S1x8189x4096_0_1_0) slices_S1x8189x4096_S1x8189x2_0_0_4094⟩,
    ⟨S1x8189x4094, extractStridedSlice S1x8189x4094 ![0, 0, 0] (extractStridedSlice S1x8189x4096 ![0, 1, 0] a slices_S1x8192x4096_S1x8189x4096_0_1_0) slices_S1x8189x4096_S1x8189x4094_0_0_0⟩] concatenates_S1x8189x2_S1x8189x4094_S1x8189x4096_d2
/-- The third factor. -/
def older1 (a : FVec F S1x8192x4096 .f32) : FVec F S1x8189x4096 .f32 :=
  concatenate S1x8189x4096 2 [⟨S1x8189x1, extractStridedSlice S1x8189x1 ![0, 0, 4095] (extractStridedSlice S1x8189x4096 ![0, 2, 0] a slices_S1x8192x4096_S1x8189x4096_0_2_0) slices_S1x8189x4096_S1x8189x1_0_0_4095⟩,
    ⟨S1x8189x4095, extractStridedSlice S1x8189x4095 ![0, 0, 0] (extractStridedSlice S1x8189x4096 ![0, 2, 0] a slices_S1x8192x4096_S1x8189x4096_0_2_0) slices_S1x8189x4096_S1x8189x4095_0_0_0⟩] concatenates_S1x8189x1_S1x8189x4095_S1x8189x4096_d2

/-- Each window's product. -/
def products (a : FVec F S1x8192x4096 .f32) : FVec F S1x8189x4096 .f32 :=
  mulf (mulf (mulf (older3 a) (older2 a)) (older1 a)) (extractStridedSlice S1x8189x4096 ![0, 3, 0] a slices_S1x8192x4096_S1x8189x4096_0_3_0)

/-- The result: the sign of each lane's sum of products. -/
def result (a : FVec F S1x8192x4096 .f32) : FVec F S1x4096 .f32 :=
  select (cmpf .ogt (Host.reduceAdd (products a) (constant S_ .f32 0x00000000#32) reducesTo_S1x8189x4096_S1x4096_d1 h_S_) (broadcastInDim S1x4096 ![] bcast_S_S1x4096 (constant S_ .f32 0x00000000#32)))
    (broadcastInDim S1x4096 ![] bcast_S_S1x4096 (constant S_ .f32 0x3F800000#32)) (broadcastInDim S1x4096 ![] bcast_S_S1x4096 (constant S_ .f32 0xBF800000#32))

/-- The program's result is these stages, one after another. -/
theorem res_eq (m : (ℓ : Loc nD τ sig) → Buf (Elt F) ℓ) (c : Dev nD) :
    Value.res_out0 m c = result (samples (levels (m ((c.tc : Thread nD τ).loc main_arg0))) (m ((c.tc : Thread nD τ).loc main_arg1))
      (m ((c.tc : Thread nD τ).loc main_arg2))) := by
  unfold Value.res_out0 Value.res_main_v26
  rfl

end Arrays

/-- A sample's level, as a word. -/
theorem levels_at (x : FVec Ideal S128x64 .f32) (n : Fin 8192) : levels x (ix2 0 n)
    = Level.word (x (ix2 ⟨n.val / 64, by omega⟩ ⟨n.val % 64, Nat.mod_lt _ (by decide)⟩)) := by
  pointwise [levels, Level.word, Level.scaled]
  rfl

/-- A number below 1000, as a word, is neither negative nor above 999. -/
theorem word_bounds : ∀ k : Fin 1000, IntOp.cmpi .slt (BitVec.ofNat 32 k.val) 0#32 = 0#1
    ∧ IntOp.cmpi .sge (BitVec.ofNat 32 k.val) 0#32 = 1#1 ∧ IntOp.cmpi .sle (BitVec.ofNat 32 k.val) 999#32 = 1#1
    ∧ (BitVec.ofNat 32 k.val).toInt.toNat = k.val := by
  decide +kernel

/-- A level's row is the level. -/
theorem rows_at (l : IVec S1x8192 32) (n : Fin 8192) (k : Fin 1000) (h : l (ix2 0 n) = BitVec.ofNat 32 k.val) :
    rows l (ix3 0 n 0) = BitVec.ofNat 32 k.val := by
  pointwise [rows]
  rw [h, (word_bounds k).1]
  rfl

/-- Its row exists. -/
theorem inRange_at (l : IVec S1x8192 32) (n : Fin 8192) (k : Fin 1000) (h : l (ix2 0 n) = BitVec.ofNat 32 k.val) :
    inRange (rows l) (ix2 0 n) = 1#1 := by
  have e := rows_at l n k h
  pointwise [inRange]
  rw [Finset.univ_unique, Finset.fold_singleton]
  show IntOp.andi (IntOp.andi (IntOp.cmpi _ (rows l (ix3 0 n 0)) _) (IntOp.cmpi _ (rows l (ix3 0 n 0)) _)) _ = _
  rw [e, (word_bounds k).2.1, (word_bounds k).2.2.1]
  rfl

/-- Rows gathered from a table by number. -/
theorem gather_at (sw : FVec Ideal S1000x4096 .f32) (i : IVec S1x8192x1 32) (n : Fin 8192) (d : Fin 4096) (k : Fin 1000)
    (h : i (ix3 0 n 0) = BitVec.ofNat 32 k.val) :
    Host.gather gather_S1000x4096_S1x8192x1_S1x8192x4096_2_0_n_n_0_2_14096 sw i (ix3 0 n d) = sw (ix2 k d) := by
  unfold Host.gather
  refine congrArg sw (funext fun a => Fin.ext ?_)
  match a with
  | ⟨0, _⟩ =>
    show GatherDims.start _ (ix3 0 n d) i 0 + GatherDims.batchCoord _ (ix3 0 n d) 0 + GatherDims.offCoord _ (ix3 0 n d) 0 = k.val
    rw [GatherDims.batchCoord_eq_zero _ _ _ (by decide), GatherDims.offCoord_eq_zero _ _ _ (by decide)]
    unfold GatherDims.start
    rw [dif_pos (by decide)]
    have e : GatherDims.siIdx gather_S1000x4096_S1x8192x1_S1x8192x4096_2_0_n_n_0_2_14096 (ix3 0 n d) ⟨0, by decide⟩ = ix3 0 n 0 := by
      funext b
      match b with
      | ⟨0, _⟩ => rfl
      | ⟨1, _⟩ => rfl
      | ⟨2, _⟩ => rfl
    show min (i (GatherDims.siIdx gather_S1000x4096_S1x8192x1_S1x8192x4096_2_0_n_n_0_2_14096 (ix3 0 n d) ⟨0, _⟩)).toInt.toNat (1000 - 1) + 0 + 0 = k.val
    rw [e, h, (word_bounds k).2.2.2]
    omega
  | ⟨1, _⟩ =>
    show GatherDims.start _ (ix3 0 n d) i 1 + GatherDims.batchCoord _ (ix3 0 n d) 1 + GatherDims.offCoord _ (ix3 0 n d) 1 = d.val
    rw [GatherDims.batchCoord_eq_zero _ _ _ (by decide)]
    unfold GatherDims.start
    rw [dif_neg (by decide), Nat.zero_add]
    rfl

/-- The reference's samples are the samples. -/
theorem samples_at (x : FVec Ideal S128x64 .f32) (sw : FVec Ideal S1000x4096 .f32) (w : FVec Ideal S8192x4096 .f32) (n : Fin 8192) (d : Fin 4096) :
    samples (levels x) sw w (ix3 0 n d) = sample x sw w n.val d := by
  let y := x (ix2 ⟨n.val / 64, by omega⟩ ⟨n.val % 64, Nat.mod_lt _ (by decide)⟩)
  let k : Fin 1000 := ⟨Level.level y, Nat.lt_succ_of_le (Level.level_le _)⟩
  have h : levels x (ix2 0 n) = BitVec.ofNat 32 k.val := (levels_at x n).trans (Level.word_eq y)
  have e : samples (levels x) sw w (ix3 0 n d) = Scalar.select (inRange (rows (levels x)) (ix2 0 n))
        (Host.gather gather_S1000x4096_S1x8192x1_S1x8192x4096_2_0_n_n_0_2_14096 sw (rows (levels x)) (ix3 0 n d))
        (Ideal.ofBits FTy.f32 2143289344#32) * w (ix2 n d) := by
    pointwise [samples]
  rw [e, inRange_at _ n k h, gather_at sw _ n d k (rows_at _ n k h)]
  unfold sample
  rw [dif_pos n.isLt]
  exact mul_comm _ _

/-- The first factor: a row turned by three lanes. -/
theorem older3_at (a : FVec Ideal S1x8192x4096 .f32) (r : Fin 8189) (d : Fin 4096) :
    older3 a (ix3 0 r d) = a (ix3 0 ⟨r.val, by omega⟩ (back d 3)) := by
  pointwise [older3]
  by_cases h : d.val < 3
  · simp only [dif_pos h, back_of_lt d 3 h (by decide), Nat.add_comm 4093]
  · simp only [dif_neg h, back_of_le d 3 (by omega)]

/-- The second factor: the next row turned by two. -/
theorem older2_at (a : FVec Ideal S1x8192x4096 .f32) (r : Fin 8189) (d : Fin 4096) :
    older2 a (ix3 0 r d) = a (ix3 0 ⟨r.val + 1, by omega⟩ (back d 2)) := by
  pointwise [older2]
  by_cases h : d.val < 2
  · simp only [dif_pos h, back_of_lt d 2 h (by decide), Nat.add_comm 4094, Nat.add_comm 1]
  · simp only [dif_neg h, back_of_le d 2 (by omega), Nat.add_comm 1]

/-- The third factor: the row after it turned by one. -/
theorem older1_at (a : FVec Ideal S1x8192x4096 .f32) (r : Fin 8189) (d : Fin 4096) :
    older1 a (ix3 0 r d) = a (ix3 0 ⟨r.val + 2, by omega⟩ (back d 1)) := by
  pointwise [older1]
  by_cases h : d.val < 1
  · simp only [dif_pos h, back_of_lt d 1 h (by decide), Nat.add_comm 4095, Nat.add_comm 2]
  · simp only [dif_neg h, back_of_le d 1 (by omega), Nat.add_comm 2]

/-- A window's product. -/
theorem products_at (a : FVec Ideal S1x8192x4096 .f32) (s : ℕ → Fin 4096 → EReal) (hs : ∀ (n : Fin 8192) (d : Fin 4096), a (ix3 0 n d) = s n.val d)
    (r : Fin 8189) (d : Fin 4096) : products a (ix3 0 r d) = gram s r.val d := by
  have e : products a (ix3 0 r d) = older3 a (ix3 0 r d) * older2 a (ix3 0 r d) * older1 a (ix3 0 r d) * a (ix3 0 ⟨3 + r.val, by omega⟩ d) := by
    pointwise [products]
  rw [e, older3_at, older2_at, older1_at, hs, hs, hs, hs]
  dsimp only
  rw [Nat.add_comm 3]
  rfl

/-- The stages' result: at each lane the sign of the sum of all 8189 windows. -/
theorem stages_at (x : FVec Ideal S128x64 .f32) (sw : FVec Ideal S1000x4096 .f32) (w : FVec Ideal S8192x4096 .f32) (d : Fin 4096) :
    result (samples (levels x) sw w) (ix2 0 d)
      = if 0 < total (sample x sw w) 8189 d then (1 : EReal) else Ideal.ofBits .f32 0xBF800000#32 := by
  have hs := samples_at x sw w
  generalize samples (levels x) sw w = a at hs
  have e : (∑ r : Fin 8189, products a (ix3 0 r d)) = total (sample x sw w) 8189 d := by
    rw [total, ← Fin.sum_univ_eq_sum_range (fun t => gram (sample x sw w) t d) 8189]
    exact Finset.sum_congr rfl fun r _ => products_at a _ hs r d
  rw [← e]
  pointwise [result]

/-- The reference's result: at each lane the sign of the sum of all 8189 windows. -/
theorem result_at (m : (ℓ : Loc nD τ sig) → Buf (Elt Ideal) ℓ) (c : Dev nD) (d : Fin 4096) :
    Value.res_out0 m c (ix2 0 d)
      = if 0 < total (sample (m ((c.tc : Thread nD τ).loc main_arg0)) (m ((c.tc : Thread nD τ).loc main_arg1)) (m ((c.tc : Thread nD τ).loc main_arg2))) 8189 d
        then (1 : EReal) else Ideal.ofBits .f32 0xBF800000#32 := by
  rw [res_eq]
  exact stages_at _ _ _ d

end Cert.ReferenceIdeal.Read

end
-- ==== Proof.Equal.lean ====
/- The two results are one array: both are, at each lane, the sign of the same sum of windows. -/
module

public import proofs.«01_k».proof.Proof.Carry
public import proofs.«01_k».proof.Proof.Reference

@[expose] public section

noncomputable section

namespace Cert.Equal

open Idealize.ShloMosaic

/-- Under the precondition, from equal arguments, the kernel's result array is the reference's. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_levels.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 m' c = Cert.KernelIdeal.Value.G5 m c := by
  have e : ∀ d : Fin 4096, Cert.ReferenceIdeal.Value.res_out0 m' c (ix2 0 d) = Cert.KernelIdeal.Value.G5 m c (ix2 0 d) := fun d => by
    rw [Cert.ReferenceIdeal.Read.result_at, Cert.KernelIdeal.Carry.result_at m c hpre]
    unfold Cert.KernelIdeal.Carry.samples
    rw [h0, h1, h2]
  funext j
  rw [eq_ix2 j]
  have h : j 0 = (0 : Fin 1) := Subsingleton.elim (α := Fin 1) _ _
  rw [h]
  exact e (j 1)

end Cert.Equal

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_levels
public import proofs.«01_k».proof.Proof.Gen.ReferenceIdeal.Run
public import Idealize.ShloMosaic.Adequacy
public import Idealize.ShloMosaic.Init
public import Idealize.ShloMosaic.Lib.Quiescent
public import proofs.«01_k».proof.Proof.Equal

@[expose] public section

noncomputable section

namespace Cert.Proof

open Idealize.ShloMosaic Idealize.SL.Sem

/-- The reference runs and leaves its arguments and every counter as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem quiescent_ReferenceIdeal_pre_levels : quiescent_ReferenceIdeal_pre_levels := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel and the reference end with equal results. -/
theorem algebraic_KernelIdeal_ReferenceIdeal_pre_levels : algebraic_KernelIdeal_ReferenceIdeal_pre_levels := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  exact (h c).1.trans (Cert.Equal.results m m' c (hpre c) (hagree c).1 (hagree c).2.1 (hagree c).2.2)

/-- Everything claimed, from the parts. -/
theorem claim : Cert.Claim := ⟨Cert.Kernel.Gen.facts, Cert.KernelIdeal.Gen.facts, Cert.ReferenceIdeal.Gen.facts, Cert.Pre_levels.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_levels, (trivial : preserves_Kernel_KernelIdeal),
  algebraic_KernelIdeal_ReferenceIdeal_pre_levels⟩

end Cert.Proof

end
